-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unmasked [hPre_unmasked : Cert.Pre_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unmasked [hPre_unmasked : Cert.Pre_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_unmasked [hKernelIdeal : Cert.KernelIdeal.Facts] [hPre_unmasked : Cert.Pre_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_unmasked [hReferenceIdeal : Cert.ReferenceIdeal.Facts] [hPre_unmasked : Cert.Pre_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_unmasked [hKernelIdeal : Cert.KernelIdeal.Facts] [hReferenceIdeal : Cert.ReferenceIdeal.Facts] [hPre_unmasked : Cert.Pre_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_unmasked : Cert.Pre_unmasked.Facts),
    quiescent_Kernel (hKernel := hKernel)
    ∧ quiescent_KernelIdeal (hKernelIdeal := hKernelIdeal)
    ∧ quiescent_KernelIdeal_pre_unmasked (hKernelIdeal := hKernelIdeal) (hPre_unmasked := hPre_unmasked)
    ∧ quiescent_ReferenceIdeal (hReferenceIdeal := hReferenceIdeal)
    ∧ quiescent_ReferenceIdeal_pre_unmasked (hReferenceIdeal := hReferenceIdeal) (hPre_unmasked := hPre_unmasked)
    ∧ preserves_Kernel_KernelIdeal
    ∧ algebraic_KernelIdeal_ReferenceIdeal_pre_unmasked (hKernelIdeal := hKernelIdeal) (hReferenceIdeal := hReferenceIdeal) (hPre_unmasked := hPre_unmasked)
-- ==== Pre_unmasked.lean ====
abbrev S16384x1000 : Shape := ⟨2, ![16384, 1000]⟩
abbrev S10 : Shape := ⟨1, ![10]⟩
abbrev S3000 : Shape := ⟨1, ![3000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel

variable [Facts]

def fn {F : FTy → Type} [FloatOps F] (main_arg0 : FVec F S16384x1000 .f32) (main_arg1 : FVec F S16384x1000 .f32) (main_arg2 : FVec F S16384x1000 .f32) (main_arg3 : FVec F S10 .f32) (main_arg4 : FVec F S3000 .f32) : IVec S_ 1 :=
  let main_cst : FVec F S_ .f32 := constant S_ .f32 0x3F800000#32
  let main_v0 : FVec F S16384x1000 .f32 := broadcastInDim S16384x1000 ![] bcast_S_S16384x1000 main_cst
  let main_v1 : IVec S16384x1000 1 := cmpf .oeq main_arg2 main_v0
  let main_c : IVec S_ 1 := constantI S_ 1 1#1
  let main_v2 : IVec S_ 1 := (fun x v => Host.reduce IntOp.andi x v reducesTo_S16384x1000_S_d0_1 h_S_) main_v1 main_c
  let main_cst_0 : FVec F S_ .f32 := constant S_ .f32 0x00000000#32
  let main_v3 : FVec F S16384x1000 .f32 := broadcastInDim S16384x1000 ![] bcast_S_S16384x1000 main_cst_0
  let main_v4 : IVec S16384x1000 1 := cmpf .oge main_arg1 main_v3
  let main_c_1 : IVec S_ 1 := constantI S_ 1 1#1
  let main_v5 : IVec S_ 1 := (fun x v => Host.reduce IntOp.andi x v reducesTo_S16384x1000_S_d0_1 h_S_) main_v4 main_c_1
  let main_v6 : IVec S_ 1 := andi main_v2 main_v5
  let main_cst_2 : FVec F S_ .f32 := constant S_ .f32 0x3F800000#32
  let main_v7 : FVec F S16384x1000 .f32 := broadcastInDim S16384x1000 ![] bcast_S_S16384x1000 main_cst_2
  let main_v8 : IVec S16384x1000 1 := cmpf .ole main_arg1 main_v7
  let main_c_3 : IVec S_ 1 := constantI S_ 1 1#1
  let main_v9 : IVec S_ 1 := (fun x v => Host.reduce IntOp.andi x v reducesTo_S16384x1000_S_d0_1 h_S_) main_v8 main_c_3
  let main_v10 : IVec S_ 1 := andi main_v6 main_v9
  main_v10
-- ==== Kernel.lean ====
abbrev S16384x1000 : Shape := ⟨2, ![16384, 1000]⟩
abbrev S10 : Shape := ⟨1, ![10]⟩
abbrev S3000 : Shape := ⟨1, ![3000]⟩
abbrev S1000x3 : Shape := ⟨2, ![1000, 3]⟩
abbrev S3x1000 : Shape := ⟨2, ![3, 1000]⟩
abbrev S1x10 : Shape := ⟨2, ![1, 10]⟩
abbrev S1x1 : Shape := ⟨2, ![1, 1]⟩
abbrev S512x1000 : Shape := ⟨2, ![512, 1000]⟩
abbrev S1 : Shape := ⟨1, ![1]⟩
abbrev S1x512x1000 : Shape := ⟨3, ![1, 512, 1000]⟩
abbrev S1x1x1 : Shape := ⟨3, ![1, 1, 1]⟩
abbrev S1x1000 : Shape := ⟨2, ![1, 1000]⟩
abbrev S1000 : Shape := ⟨1, ![1000]⟩
abbrev S1x3x1000 : Shape := ⟨3, ![1, 3, 1000]⟩
abbrev S_ : Shape := ⟨0, ![]⟩

abbrev nBuf : Space → Nat
  | .hbm => 15
  | .vmem => 7
  | .smem => 5
  | _ => 0

abbrev bufTy : (tb : Table) → Fin (tcTables nBuf tb) → BufTy
  | .hbm, ⟨0, _⟩ => ⟨S16384x1000, .f32⟩
  | .hbm, ⟨1, _⟩ => ⟨S16384x1000, .f32⟩
  | .hbm, ⟨2, _⟩ => ⟨S16384x1000, .f32⟩
  | .hbm, ⟨3, _⟩ => ⟨S10, .f32⟩
  | .hbm, ⟨4, _⟩ => ⟨S3000, .f32⟩
  | .hbm, ⟨5, _⟩ => ⟨S1000x3, .f32⟩
  | .hbm, ⟨6, _⟩ => ⟨S3x1000, .f32⟩
  | .hbm, ⟨7, _⟩ => ⟨S1x10, .f32⟩
  | .hbm, ⟨8, _⟩ => ⟨S1x1, .f32⟩
  | .hbm, ⟨9, _⟩ => ⟨S1x10, .f32⟩
  | .hbm, ⟨10, _⟩ => ⟨S3x1000, .f32⟩
  | .hbm, ⟨11, _⟩ => ⟨S_, .f32⟩
  | .hbm, ⟨12, _⟩ => ⟨S10, .f32⟩
  | .hbm, ⟨13, _⟩ => ⟨S1000x3, .f32⟩
  | .hbm, ⟨14, _⟩ => ⟨S3000, .f32⟩
  | .local _ .vmem, ⟨0, _⟩ => ⟨S512x1000, .f32⟩
  | .local _ .vmem, ⟨1, _⟩ => ⟨S512x1000, .f32⟩
  | .local _ .vmem, ⟨2, _⟩ => ⟨S512x1000, .f32⟩
  | .local _ .vmem, ⟨3, _⟩ => ⟨S512x1000, .f32⟩
  | .local _ .vmem, ⟨4, _⟩ => ⟨S3x1000, .f32⟩
  | .local _ .vmem, ⟨5, _⟩ => ⟨S3x1000, .f32⟩
  | .local _ .vmem, ⟨6, _⟩ => ⟨S3x1000, .f32⟩
  | .local _ .smem, ⟨0, _⟩ => ⟨S1x10, .f32⟩
  | .local _ .smem, ⟨1, _⟩ => ⟨S1x1, .f32⟩
  | .local _ .smem, ⟨2, _⟩ => ⟨S1x10, .f32⟩
  | .local _ .smem, ⟨3, _⟩ => ⟨S1, .f32⟩
  | .local _ .smem, ⟨4, _⟩ => ⟨S10, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg6_0 : Ref sig .tc := ⟨.vmem, 5, rfl⟩
abbrev cc0_scratch2 : Ref sig .tc := ⟨.vmem, 6, rfl⟩
abbrev cc0_stg2_0 : Ref sig .tc := ⟨.smem, 0, rfl⟩
abbrev cc0_stg4_0 : Ref sig .tc := ⟨.smem, 1, rfl⟩
abbrev cc0_stg5_0 : Ref sig .tc := ⟨.smem, 2, rfl⟩
abbrev cc0_scratch0 : Ref sig .tc := ⟨.smem, 3, rfl⟩
abbrev cc0_scratch1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v264 : BitVec 1 := Scalar.cmpi .eq arg0 c31_i32
  let v265 : BitVec 32 := Scalar.extui v264
  let c0_i32_103 : BitVec 32 := 0#32
  let v266 : BitVec 1 := Scalar.cmpi .ne v265 c0_i32_103
  v266

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x1000 : Shape := ⟨2, ![16384, 1000]⟩
abbrev S10 : Shape := ⟨1, ![10]⟩
abbrev S3000 : Shape := ⟨1, ![3000]⟩
abbrev S_ : Shape := ⟨0, ![]⟩
abbrev S16384x1000x1 : Shape := ⟨3, ![16384, 1000, 1]⟩
abbrev S1000 : Shape := ⟨1, ![1000]⟩
abbrev S1x1000 : Shape := ⟨2, ![1, 1000]⟩
abbrev S16384000 : Shape := ⟨1, ![16384000]⟩
abbrev S16384000x1 : Shape := ⟨2, ![16384000, 1]⟩

abbrev nBuf : Space → Nat
  | .hbm => 189
  | .vmem => 0
  | .smem => 0
  | _ => 0

abbrev hbmTy0_0 (i : Nat) : BufTy := match i % 128 with
  | 0 => ⟨S16384x1000, .f32⟩
  | 1 => ⟨S16384x1000, .f32⟩
  | 2 => ⟨S16384x1000, .f32⟩
  | 3 => ⟨S10, .f32⟩
  | 4 => ⟨S3000, .f32⟩
  | 5 => ⟨S_, .f32⟩
  | 6 => ⟨S_, .f32⟩
  | 7 => ⟨S_, .f32⟩
  | 8 => ⟨S16384x1000, .f32⟩
  | 9 => ⟨S16384x1000, .f32⟩
  | 10 => ⟨S_, .f32⟩
  | 11 => ⟨S16384x1000, .f32⟩
  | 12 => ⟨S16384x1000, .f32⟩
  | 13 => ⟨S_, .f32⟩
  | 14 => ⟨S_, .f32⟩
  | 15 => ⟨S16384x1000, .f32⟩
  | 16 => ⟨S16384x1000, .f32⟩
  | 17 => ⟨S16384x1000, .f32⟩
  | 18 => ⟨S16384x1000, .f32⟩
  | 19 => ⟨S16384x1000, .f32⟩
  | 20 => ⟨S16384x1000, .f32⟩
  | 21 => ⟨S16384x1000, .f32⟩
  | 22 => ⟨S16384x1000, .f32⟩
  | 23 => ⟨S16384x1000, .f32⟩
  | 24 => ⟨S16384x1000, .f32⟩
  | 25 => ⟨S16384x1000, .f32⟩
  | 26 => ⟨S_, .f32⟩
  | 27 => ⟨S16384x1000, .f32⟩
  | 28 => ⟨S16384x1000, .f32⟩
  | 29 => ⟨S_, .f32⟩
  | 30 => ⟨S16384x1000, .f32⟩
  | 31 => ⟨S16384x1000, .f32⟩
  | 32 => ⟨S16384x1000, .f32⟩
  | 33 => ⟨S16384x1000, .f32⟩
  | 34 => ⟨S_, .f32⟩
  | 35 => ⟨S16384x1000, .f32⟩
  | 36 => ⟨S16384x1000, .f32⟩
  | 37 => ⟨S16384x1000, .f32⟩
  | 38 => ⟨S16384x1000, .i32⟩
  | 39 => ⟨S_, .i32⟩
  | 40 => ⟨S_, .i32⟩
  | 41 => ⟨S_, .i32⟩
  | 42 => ⟨S16384x1000, .i32⟩
  | 43 => ⟨S16384x1000, .i32⟩
  | 44 => ⟨S_, .i32⟩
  | 45 => ⟨S16384x1000, .i32⟩
  | 46 => ⟨S16384x1000, .i32⟩
  | 47 => ⟨S_, .i32⟩
  | 48 => ⟨S16384x1000, .i32⟩
  | 49 => ⟨S16384x1000, .i1⟩
  | 50 => ⟨S_, .i32⟩
  | 51 => ⟨S16384x1000, .i32⟩
  | 52 => ⟨S16384x1000, .i32⟩
  | 53 => ⟨S16384x1000, .i32⟩
  | 54 => ⟨S16384x1000x1, .i32⟩
  | 55 => ⟨S16384x1000, .f32⟩
  | 56 => ⟨S_, .f32⟩
  | 57 => ⟨S16384x1000, .f32⟩
  | 58 => ⟨S16384x1000, .f32⟩
  | 59 => ⟨S_, .f32⟩
  | 60 => ⟨S16384x1000, .f32⟩
  | 61 => ⟨S16384x1000, .f32⟩
  | 62 => ⟨S_, .f32⟩
  | 63 => ⟨S16384x1000, .f32⟩
  | 64 => ⟨S16384x1000, .f32⟩
  | 65 => ⟨S16384x1000, .f32⟩
  | 66 => ⟨S16384x1000, .i32⟩
  | 67 => ⟨S_, .i32⟩
  | 68 => ⟨S_, .i32⟩
  | 69 => ⟨S_, .i32⟩
  | 70 => ⟨S16384x1000, .i32⟩
  | 71 => ⟨S16384x1000, .i32⟩
  | 72 => ⟨S_, .i32⟩
  | 73 => ⟨S16384x1000, .i32⟩
  | 74 => ⟨S16384x1000, .i32⟩
  | 75 => ⟨S1000, .i32⟩
  | 76 => ⟨S1x1000, .i32⟩
  | 77 => ⟨S_, .i32⟩
  | 78 => ⟨S1x1000, .i32⟩
  | 79 => ⟨S1x1000, .i32⟩
  | 80 => ⟨S16384x1000, .i32⟩
  | 81 => ⟨S16384x1000, .i32⟩
  | 82 => ⟨S_, .i32⟩
  | 83 => ⟨S16384x1000, .i32⟩
  | 84 => ⟨S16384x1000, .i1⟩
  | 85 => ⟨S_, .i32⟩
  | 86 => ⟨S16384x1000, .i32⟩
  | 87 => ⟨S16384x1000, .i32⟩
  | 88 => ⟨S16384x1000, .i32⟩
  | 89 => ⟨S16384x1000x1, .i32⟩
  | 90 => ⟨S16384x1000, .f32⟩
  | 91 => ⟨S_, .f32⟩
  | 92 => ⟨S16384x1000, .f32⟩
  | 93 => ⟨S16384x1000, .f32⟩
  | 94 => ⟨S_, .f32⟩
  | 95 => ⟨S16384x1000, .f32⟩
  | 96 => ⟨S16384x1000, .f32⟩
  | 97 => ⟨S16384x1000, .f32⟩
  | 98 => ⟨S16384x1000, .f32⟩
  | 99 => ⟨S16384x1000, .f32⟩
  | 100 => ⟨S16384x1000, .f32⟩
  | 101 => ⟨S_, .f32⟩
  | 102 => ⟨S_, .f32⟩
  | 103 => ⟨S_, .f32⟩
  | 104 => ⟨S_, .f32⟩
  | 105 => ⟨S_, .f32⟩
  | 106 => ⟨S16384000, .f32⟩
  | 107 => ⟨S16384000, .i32⟩
  | 108 => ⟨S_, .f32⟩
  | 109 => ⟨S10, .f32⟩
  | 110 => ⟨S_, .i32⟩
  | 111 => ⟨S_, .i32⟩
  | 112 => ⟨S16384000, .i32⟩
  | 113 => ⟨S16384000, .i32⟩
  | 114 => ⟨S_, .i32⟩
  | 115 => ⟨S16384000, .i32⟩
  | 116 => ⟨S16384000, .i1⟩
  | 117 => ⟨S_, .i32⟩
  | 118 => ⟨S16384000, .i32⟩
  | 119 => ⟨S16384000, .i32⟩
  | 120 => ⟨S16384000, .i32⟩
  | 121 => ⟨S16384000x1, .i32⟩
  | 122 => ⟨S10, .f32⟩
  | 123 => ⟨S_, .f32⟩
  | 124 => ⟨S_, .f32⟩
  | 125 => ⟨S_, .f32⟩
  | 126 => ⟨S_, .f32⟩
  | 127 => ⟨S10, .f32⟩
  | _ => ⟨S16384x1000, .f32⟩

abbrev hbmTy0_1 (i : Nat) : BufTy := match i % 128 with
  | 0 => ⟨S10, .f32⟩
  | 1 => ⟨S_, .f32⟩
  | 2 => ⟨S10, .f32⟩
  | 3 => ⟨S10, .f32⟩
  | 4 => ⟨S_, .f32⟩
  | 5 => ⟨S10, .f32⟩
  | 6 => ⟨S10, .f32⟩
  | 7 => ⟨S_, .f32⟩
  | 8 => ⟨S10, .f32⟩
  | 9 => ⟨S10, .f32⟩
  | 10 => ⟨S10, .f32⟩
  | 11 => ⟨S_, .f32⟩
  | 12 => ⟨S_, .f32⟩
  | 13 => ⟨S_, .f32⟩
  | 14 => ⟨S_, .f32⟩
  | 15 => ⟨S10, .f32⟩
  | 16 => ⟨S10, .f32⟩
  | 17 => ⟨S_, .f32⟩
  | 18 => ⟨S10, .f32⟩
  | 19 => ⟨S10, .f32⟩
  | 20 => ⟨S16384000, .i32⟩
  | 21 => ⟨S_, .f32⟩
  | 22 => ⟨S3000, .f32⟩
  | 23 => ⟨S_, .i32⟩
  | 24 => ⟨S_, .i32⟩
  | 25 => ⟨S16384000, .i32⟩
  | 26 => ⟨S16384000, .i32⟩
  | 27 => ⟨S_, .i32⟩
  | 28 => ⟨S16384000, .i32⟩
  | 29 => ⟨S16384000, .i1⟩
  | 30 => ⟨S_, .i32⟩
  | 31 => ⟨S16384000, .i32⟩
  | 32 => ⟨S16384000, .i32⟩
  | 33 => ⟨S16384000, .i32⟩
  | 34 => ⟨S16384000x1, .i32⟩
  | 35 => ⟨S3000, .f32⟩
  | 36 => ⟨S_, .f32⟩
  | 37 => ⟨S_, .f32⟩
  | 38 => ⟨S_, .f32⟩
  | 39 => ⟨S_, .f32⟩
  | 40 => ⟨S3000, .f32⟩
  | 41 => ⟨S3000, .f32⟩
  | 42 => ⟨S_, .f32⟩
  | 43 => ⟨S3000, .f32⟩
  | 44 => ⟨S3000, .f32⟩
  | 45 => ⟨S_, .f32⟩
  | 46 => ⟨S3000, .f32⟩
  | 47 => ⟨S3000, .f32⟩
  | 48 => ⟨S_, .f32⟩
  | 49 => ⟨S3000, .f32⟩
  | 50 => ⟨S3000, .f32⟩
  | 51 => ⟨S3000, .f32⟩
  | 52 => ⟨S_, .f32⟩
  | 53 => ⟨S_, .f32⟩
  | 54 => ⟨S_, .f32⟩
  | 55 => ⟨S_, .f32⟩
  | 56 => ⟨S3000, .f32⟩
  | 57 => ⟨S3000, .f32⟩
  | 58 => ⟨S_, .f32⟩
  | 59 => ⟨S3000, .f32⟩
  | 60 => ⟨S3000, .f32⟩
  | _ => ⟨S16384x1000, .f32⟩

abbrev hbmTy (i : Nat) : BufTy := match i / 128 with
  | 0 => hbmTy0_0 i
  | 1 => hbmTy0_1 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_c_5 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_cst_10 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_c_11 : Ref sig .tc := ⟨.hbm, 67, rfl⟩
abbrev main_c_12 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_13 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_c_15 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_16 : Ref sig .tc := ⟨.hbm, 91, rfl⟩
abbrev main_v51 : Ref sig .tc := ⟨.hbm, 92, rfl⟩
abbrev main_v52 : Ref sig .tc := ⟨.hbm, 93, rfl⟩
abbrev main_cst_17 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_18 : Ref sig .tc := ⟨.hbm, 101, rfl⟩
abbrev main_v59 : Ref sig .tc := ⟨.hbm, 102, rfl⟩
abbrev main_cst_19 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_20 : Ref sig .tc := ⟨.hbm, 108, rfl⟩
abbrev main_v64 : Ref sig .tc := ⟨.hbm, 109, rfl⟩
abbrev main_c_21 : Ref sig .tc := ⟨.hbm, 110, rfl⟩
abbrev main_call4_v0 : Ref sig .tc := ⟨.hbm, 111, rfl⟩
abbrev main_call4_v1 : Ref sig .tc := ⟨.hbm, 112, rfl⟩
abbrev main_v65 : Ref sig .tc := ⟨.hbm, 113, rfl⟩
abbrev main_c_22 : Ref sig .tc := ⟨.hbm, 114, rfl⟩
abbrev main_v66 : Ref sig .tc := ⟨.hbm, 115, rfl⟩
abbrev main_v67 : Ref sig .tc := ⟨.hbm, 116, rfl⟩
abbrev main_c_23 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_24 : Ref sig .tc := ⟨.hbm, 123, rfl⟩
abbrev main_v73 : Ref sig .tc := ⟨.hbm, 124, rfl⟩
abbrev main_cst_25 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_26 : Ref sig .tc := ⟨.hbm, 129, rfl⟩
abbrev main_v77 : Ref sig .tc := ⟨.hbm, 130, rfl⟩
abbrev main_v78 : Ref sig .tc := ⟨.hbm, 131, rfl⟩
abbrev main_cst_27 : Ref sig .tc := ⟨.hbm, 132, rfl⟩
abbrev main_v79 : Ref sig .tc := ⟨.hbm, 133, rfl⟩
abbrev main_v80 : Ref sig .tc := ⟨.hbm, 134, rfl⟩
abbrev main_cst_28 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_29 : Ref sig .tc := ⟨.hbm, 139, rfl⟩
abbrev main_v84 : Ref sig .tc := ⟨.hbm, 140, rfl⟩
abbrev main_cst_30 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_31 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_32 : Ref sig .tc := ⟨.hbm, 149, rfl⟩
abbrev main_v91 : Ref sig .tc := ⟨.hbm, 150, rfl⟩
abbrev main_c_33 : Ref sig .tc := ⟨.hbm, 151, rfl⟩
abbrev main_call5_v0 : Ref sig .tc := ⟨.hbm, 152, rfl⟩
abbrev main_call5_v1 : Ref sig .tc := ⟨.hbm, 153, rfl⟩
abbrev main_v92 : Ref sig .tc := ⟨.hbm, 154, rfl⟩
abbrev main_c_34 : Ref sig .tc := ⟨.hbm, 155, rfl⟩
abbrev main_v93 : Ref sig .tc := ⟨.hbm, 156, rfl⟩
abbrev main_v94 : Ref sig .tc := ⟨.hbm, 157, rfl⟩
abbrev main_c_35 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_cst_36 : Ref sig .tc := ⟨.hbm, 164, rfl⟩
abbrev main_v100 : Ref sig .tc := ⟨.hbm, 165, rfl⟩
abbrev main_cst_37 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_cst_38 : Ref sig .tc := ⟨.hbm, 170, rfl⟩
abbrev main_v104 : Ref sig .tc := ⟨.hbm, 171, rfl⟩
abbrev main_v105 : Ref sig .tc := ⟨.hbm, 172, rfl⟩
abbrev main_cst_39 : Ref sig .tc := ⟨.hbm, 173, rfl⟩
abbrev main_v106 : Ref sig .tc := ⟨.hbm, 174, rfl⟩
abbrev main_v107 : Ref sig .tc := ⟨.hbm, 175, rfl⟩
abbrev main_cst_40 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_41 : Ref sig .tc := ⟨.hbm, 180, rfl⟩
abbrev main_v111 : Ref sig .tc := ⟨.hbm, 181, rfl⟩
abbrev main_cst_42 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_43 : Ref sig .tc := ⟨.hbm, 186, rfl⟩
abbrev main_v115 : Ref sig .tc := ⟨.hbm, 187, rfl⟩
abbrev main_v116 : Ref sig .tc := ⟨.hbm, 188, rfl⟩

abbrev nD : Nat := 1
abbrev τ : Topo := Topo.v7x

variable {F : FTy → Type} [FloatOps F]
-- ==== Proof.Spec.lean ====
/- The plain mathematics that the kernel and its reference both compute, over the extended reals. -/
module

public import Idealize.ShloMosaic.Lib.Pointwise
public import Idealize.ShloMosaic.Lib.Tactic.WordOmega

@[expose] public section

set_option maxRecDepth 16384

noncomputable section

namespace Cert.Spec

open Idealize.ShloMosaic

/-! ## One element -/

/-- The logistic function. -/
def sg (x : EReal) : EReal := Ideal.div 1 (1 + Ideal.exp (-x))

/-- The absolute value. -/
def absE (x : EReal) : EReal := max x (-x)

/-- The binary cross entropy of the logit `x` against the target `t`. -/
def raw (x t : EReal) : EReal := max x 0 - x * t + Ideal.log1p (Ideal.exp (-absE x))

/-- The word of `⌊v⌋` clamped to `[0, k]`. -/
def clampWord (k : BitVec 32) (v : EReal) : BitVec 32 :=
  IntOp.minsi k (IntOp.maxsi 0#32 (Ideal.fptosi 32 (Ideal.liftRound Int.floor v)))

/-- The word of the gradient bin: `⌊|sg x - t| · 10⌋` clamped to `[0, 9]`. -/
def gWord (x t : EReal) : BitVec 32 := clampWord 9#32 (absE (sg x - t) * Ideal.ofBits .f32 0x41200000#32)

/-- The word of the target bin: `⌊t · 3⌋` clamped to `[0, 2]`. -/
def lWord (t : EReal) : BitVec 32 := clampWord 2#32 (t * Ideal.ofBits .f32 0x40400000#32)

/-- A clamped word is a number at most the bound. -/
theorem clampWord_lt (k : BitVec 32) (hk : k.toNat < 1000) (v : EReal) : (clampWord k v).toNat < k.toNat + 1 := by
  unfold clampWord
  generalize Ideal.fptosi 32 _ = w
  unfold IntOp.minsi IntOp.maxsi
  have h0 : (0#32).toInt = 0 := by decide
  have hk' : k.toInt = (k.toNat : Int) := by rw [BitVec.toInt_eq_toNat_cond]; omega
  have hw := BitVec.toInt_eq_toNat_cond w
  have := w.isLt
  simp only [BitVec.slt, decide_eq_true_eq, h0, hk']
  split <;> split <;> rename_i h1 h2 <;> simp_all <;> omega

/-- The gradient bin. -/
def gIdx (x t : EReal) : Fin 10 := ⟨(gWord x t).toNat, clampWord_lt 9#32 (by decide) _⟩

/-- The target bin. -/
def lIdx (t : EReal) : Fin 3 := ⟨(lWord t).toNat, clampWord_lt 2#32 (by decide) _⟩

/-- The gradient bin as a word. -/
theorem gWord_eq (x t : EReal) : gWord x t = BitVec.ofNat 32 (gIdx x t).val := by
  unfold gIdx; rw [BitVec.ofNat_toNat, BitVec.setWidth_eq]

/-- The target bin as a word. -/
theorem lWord_eq (t : EReal) : lWord t = BitVec.ofNat 32 (lIdx t).val := by
  unfold lIdx; rw [BitVec.ofNat_toNat, BitVec.setWidth_eq]

/-- The smoothed inverse of a table entry. -/
def wt (g : EReal) : EReal := Ideal.div 1 g + Ideal.ofBits .f32 0x3A83126F#32

/-- The weighted loss of one element: `g` is the gradient table, `l` the three label entries of the element's class. -/
def elemLoss (x t : EReal) (g : Fin 10 → EReal) (l : Fin 3 → EReal) : EReal :=
  raw x t * Ideal.sqrt (wt (g (gIdx x t)) * wt (l (lIdx t)))

/-! ## The three sums over the elements -/

/-- One where the two numbers agree, zero elsewhere. -/
def hit {n : ℕ} (a b : Fin n) : EReal := if a = b then 1 else 0

/-- How many elements of `n` rows fall in gradient bin `b`. -/
def gcount {n : ℕ} (X T : Fin n → Fin 1000 → EReal) (b : Fin 10) : EReal := ∑ r, ∑ c, hit (gIdx (X r c) (T r c)) b

/-- How many of `n` rows have class `c`'s target in bin `b`. -/
def lcount {n : ℕ} (T : Fin n → Fin 1000 → EReal) (b : Fin 3) (c : Fin 1000) : EReal := ∑ r, hit (lIdx (T r c)) b

/-- The sum of the weighted losses of `n` rows. -/
def lossSum {n : ℕ} (X T : Fin n → Fin 1000 → EReal) (g : Fin 10 → EReal) (l : Fin 3 → Fin 1000 → EReal) : EReal :=
  ∑ r, ∑ c, elemLoss (X r c) (T r c) g fun b => l b c

/-! ## The moving average of a histogram -/

section Ema

variable {ι : Type} [Fintype ι] {κ : Type} [Fintype κ]

/-- A table divided by its smoothed sum and scaled by `K`. -/
def norm (K : EReal) (h : ι → EReal) (i : ι) : EReal :=
  Ideal.div (h i) ((∑ j, h j) + Ideal.ofBits .f32 0x2EDBE6FF#32) * K

/-- The old table blended with the normalised histogram. -/
def blend (K : EReal) (old cnt : ι → EReal) (i : ι) : EReal :=
  old i * Ideal.ofBits .f32 0x3F7FFFEF#32 + Ideal.ofBits .f32 0x358637BD#32 * norm K cnt i

/-- The new table: the blend, normalised. -/
def ema (K : EReal) (old cnt : ι → EReal) : ι → EReal := norm K (blend K old cnt)

/-- Renaming the entries of a table renames the entries of the normalised one. -/
theorem norm_reindex (e : κ ≃ ι) (K : EReal) (h : ι → EReal) (k : κ) : norm K (fun k => h (e k)) k = norm K h (e k) := by
  unfold norm; rw [Equiv.sum_comp e h]

/-- Renaming the entries of both tables renames the entries of the new one. -/
theorem ema_reindex (e : κ ≃ ι) (K : EReal) (old cnt : ι → EReal) (k : κ) :
    ema K (fun k => old (e k)) (fun k => cnt (e k)) k = ema K old cnt (e k) := by
  unfold ema
  rw [← norm_reindex e]
  refine congrFun (congrArg _ (funext fun k => ?_)) k
  unfold blend; rw [norm_reindex e]

end Ema

/-! ## Words and tables -/

/-- Two small numbers have equal words exactly when they are equal. -/
theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The comparison bit of two bins, widened and converted, is `hit`. -/
theorem hit_word {n : ℕ} (hn : n ≤ 1000) (a b : Fin n) (w k : BitVec 32) (hw : w = BitVec.ofNat 32 a.val) (hk : k = BitVec.ofNat 32 b.val) :
    (FloatOps.sitofp (F := Ideal) .f32 ((IntOp.cmpi .eq w k).setWidth 32) : EReal) = hit a b := by
  have ha := a.isLt
  have hb := b.isLt
  have h : (w == k) = decide (a = b) := by
    rw [hw, hk, Bool.eq_iff_iff, beq_iff_eq, decide_eq_true_eq, ofNat_eq_iff (by omega) (by omega), Fin.val_inj]
  show (((((BitVec.ofBool (w == k)).setWidth 32).toInt : ℝ)) : EReal) = hit a b
  rw [h]
  unfold hit
  by_cases e : a = b
  · rw [decide_eq_true e, if_pos e]; simp
  · rw [decide_eq_false e, if_neg e]; simp

/-- The logistic function as the kernel spells it, on the side where the exponential does not overflow. -/
theorem sg_eq (x : EReal) : (if 0 ≤ x then Ideal.div 1 (1 + Ideal.exp (-absE x)) else Ideal.exp (-absE x) * Ideal.div 1 (1 + Ideal.exp (-absE x))) = sg x := by
  unfold absE sg
  split
  · rename_i h
    rw [max_eq_left ((EReal.neg_le_zero.2 h).trans h)]
  · rename_i h
    have h := (not_le.1 h).le
    rw [max_eq_right (h.trans (EReal.neg_nonneg.2 h)), neg_neg]
    show _ = Ideal.logistic x
    induction x with
    | bot => simp
    | top => simp at h
    | coe r =>
      have h1 : (1 : EReal) + Ideal.exp r = ((1 + Real.exp r : ℝ) : EReal) := by
        rw [Ideal.exp_coe, ← EReal.coe_one, ← EReal.coe_add]
      have hr : (0 : ℝ) < 1 + Real.exp r := by positivity
      rw [h1, Ideal.div_coe hr.ne', Ideal.exp_coe, Ideal.logistic_coe, one_mul, ← EReal.coe_mul, Real.exp_neg]
      congr 1
      have := Real.exp_pos r
      field_simp
      ring

end Cert.Spec

end
-- ==== Proof.Point.lean ====
/- What one grid point of the kernel adds to its three running sums, and what the last one writes. -/
module

public import proofs.«01_k».proof.Proof.Gen.KernelIdeal.Frame
public import proofs.«01_k».proof.Proof.Spec

@[expose] public section

set_option maxRecDepth 16384

noncomputable section

namespace Cert.Point

open Cert.KernelIdeal Cert.KernelIdeal.Gen Cert.Spec Idealize.ShloMosaic

/-! ## Blocks by row and column -/

/-- A block of rows of 1000 classes, by row and column. -/
abbrev rows {n : ℕ} (v : (⟨2, ![n, 1000]⟩ : Shape).Idx → EReal) (r : Fin n) (c : Fin 1000) : EReal := v (ix2 r c)

/-- The gradient table in its one-row block. -/
abbrev tab (g : (⟨2, ![1, 10]⟩ : Shape).Idx → EReal) (b : Fin 10) : EReal := g (ix2 0 b)

variable (x t : Vec Ideal S512x1000 .f32)

/-- The body's unweighted loss. -/
theorem pay33_apply (r : Fin 512) (c : Fin 1000) : k0_pay33 x t (ix2 r c) = raw (rows x r c) (rows t r c) := by
  pointwise [k0_pay33, k0_pay32, zero_sub]
  rfl

/-- The body's gradient bin. -/
theorem pay34_apply (r : Fin 512) (c : Fin 1000) : k0_pay34 x t (ix2 r c) = gWord (rows x r c) (rows t r c) := by
  pointwise [k0_pay34, k0_pay32, zero_sub]
  rw [gWord, ← sg_eq]
  rfl

/-- The body's target bin. -/
theorem pay35_apply (r : Fin 512) (c : Fin 1000) : k0_pay35 t (ix2 r c) = lWord (rows t r c) := by
  pointwise [k0_pay35]
  rfl

/-- The bits that mark one bin, widened, converted and summed over the block, count the block's elements in that bin. -/
theorem count_word (v : IVec S512x1000 32) (k : BitVec 32) (b : Fin 10) (hk : k = BitVec.ofNat 32 b.val)
    (hv : ∀ r c, v (ix2 r c) = gWord (rows x r c) (rows t r c)) :
    (∑ r : Fin 512, ∑ c : Fin 1000, (FloatOps.sitofp (F := Ideal) .f32 ((IntOp.cmpi .eq (v (ix2 r c)) k).setWidth 32) : EReal))
      = gcount (rows x) (rows t) b :=
  Finset.sum_congr rfl fun r _ => Finset.sum_congr rfl fun c _ =>
    hit_word (by decide) _ _ _ _ ((hv r c).trans (gWord_eq _ _)) hk

/-- What one point adds to each of the ten running counts: the block's elements in that bin. -/
theorem pay_counts (v : IVec S512x1000 32) (hv : ∀ r c, v (ix2 r c) = gWord (rows x r c) (rows t r c)) (a : Elt Ideal .f32) :
    k0_pay37 (F := Ideal) v a = (a + gcount (rows x) (rows t) 0 : EReal)
    ∧ k0_pay40 (F := Ideal) v a = (a + gcount (rows x) (rows t) 1 : EReal)
    ∧ k0_pay43 (F := Ideal) (k0_pay41 v) a = (a + gcount (rows x) (rows t) 2 : EReal)
    ∧ k0_pay45 (F := Ideal) v a = (a + gcount (rows x) (rows t) 3 : EReal)
    ∧ k0_pay49 (F := Ideal) a (k0_pay48 v) = (a + gcount (rows x) (rows t) 4 : EReal)
    ∧ k0_pay51 (F := Ideal) v a = (a + gcount (rows x) (rows t) 5 : EReal)
    ∧ k0_pay54 (F := Ideal) v a = (a + gcount (rows x) (rows t) 6 : EReal)
    ∧ k0_pay56 (F := Ideal) (k0_pay55 v) a = (a + gcount (rows x) (rows t) 7 : EReal)
    ∧ k0_pay58 (F := Ideal) v a = (a + gcount (rows x) (rows t) 8 : EReal)
    ∧ k0_pay61 (F := Ideal) (k0_pay59 v) a = (a + gcount (rows x) (rows t) 9 : EReal) := by
  pointwise [k0_pay37, k0_pay36, k0_pay40, k0_pay38, k0_pay43, k0_pay41, k0_pay45, k0_pay44, k0_pay49, k0_pay48, k0_pay46, k0_pay51,
    k0_pay50, k0_pay54, k0_pay52, k0_pay56, k0_pay55, k0_pay58, k0_pay57, k0_pay61, k0_pay59]
  exact ⟨congrArg _ (count_word x t v _ 0 rfl hv), congrArg _ (count_word x t v _ 1 rfl hv), congrArg _ (count_word x t v _ 2 rfl hv),
    congrArg _ (count_word x t v _ 3 rfl hv), congrArg _ (count_word x t v _ 4 rfl hv), congrArg _ (count_word x t v _ 5 rfl hv),
    congrArg _ (count_word x t v _ 6 rfl hv), congrArg _ (count_word x t v _ 7 rfl hv), congrArg _ (count_word x t v _ 8 rfl hv),
    congrArg _ (count_word x t v _ 9 rfl hv)⟩

/-- The chain of ten choices looks the gradient table up at the element's bin. -/
theorem pay60_apply (v : IVec S512x1000 32) (hv : ∀ r c, v (ix2 r c) = gWord (rows x r c) (rows t r c)) (g : Fin 10 → Elt Ideal .f32)
    (r : Fin 512) (c : Fin 1000) :
    k0_pay60 (F := Ideal) v (k0_pay53 v (k0_pay47 v (k0_pay39 v (g 0) (g 1)) (k0_pay41 v) (k0_pay42 (g 2)) (g 3) (g 4)) (g 5) (g 6))
      (k0_pay55 v) (g 7) (g 8) (g 9) (ix2 r c) = wt (g (gIdx (rows x r c) (rows t r c))) := by
  have hw := (hv r c).trans (gWord_eq _ _)
  revert hw
  generalize gIdx _ _ = i
  intro hw
  pointwise [k0_pay60, k0_pay53, k0_pay47, k0_pay39, k0_pay42, k0_pay41, k0_pay36, k0_pay38, k0_pay44, k0_pay46, k0_pay50, k0_pay52, k0_pay55,
    k0_pay57, k0_pay59]
  rw [hw]
  fin_cases i <;> rfl

/-- The body's weights of the label table. -/
theorem pay62_apply (l : Vec Ideal S3x1000 .f32) (b : Fin 3) (c : Fin 1000) : k0_pay62 l (ix2 b c) = wt (l (ix2 b c)) := by
  pointwise [k0_pay62]
  rfl

/-- What one point adds to the running loss. -/
theorem pay4_apply (l : Vec Ideal S3x1000 .f32) (v14 : FVec Ideal S512x1000 .f32) (v40 : IVec S512x1000 32) (v192 : FVec Ideal S512x1000 .f32)
    (g : Fin 10 → EReal) (a : Elt Ideal .f32)
    (h14 : ∀ r c, v14 (ix2 r c) = raw (rows x r c) (rows t r c)) (h40 : ∀ r c, v40 (ix2 r c) = lWord (rows t r c))
    (h192 : ∀ r c, v192 (ix2 r c) = wt (g (gIdx (rows x r c) (rows t r c)))) :
    k0_pay4 (F := Ideal) v14 v40 v192 (k0_pay62 l) (k0_pay66 v40 l) a = (a + lossSum (rows x) (rows t) g (rows l) : EReal) := by
  pointwise [k0_pay4, k0_pay2, k0_pay66, k0_pay63, k0_pay65, k0_pay62]
  refine congrArg (a + ·) (Finset.sum_congr rfl fun r _ => Finset.sum_congr rfl fun c _ => ?_)
  have hw := (h40 r c).trans (lWord_eq _)
  rw [h14, h192]
  unfold elemLoss
  revert hw
  generalize lIdx (rows t r c) = i
  intro hw
  rw [hw]
  fin_cases i <;> rfl

/-- What one point adds to the three rows of target counts. -/
theorem pay_lcounts (v : IVec S512x1000 32) (hv : ∀ r c, v (ix2 r c) = lWord (rows t r c)) (a : Vec Ideal S1x1000 .f32) (c : Fin 1000) :
    k0_pay64 (F := Ideal) v a (ix2 0 c) = (a (ix2 0 c) + lcount (rows t) 0 c : EReal)
    ∧ k0_pay1 (F := Ideal) a (k0_pay67 v) (ix2 0 c) = (a (ix2 0 c) + lcount (rows t) 1 c : EReal)
    ∧ k0_pay3 (F := Ideal) v a (ix2 0 c) = (a (ix2 0 c) + lcount (rows t) 2 c : EReal) := by
  pointwise [k0_pay64, k0_pay1, k0_pay67, k0_pay3, k0_pay2, k0_pay63, k0_pay65]
  have h := fun (b : Fin 3) (k : BitVec 32) (hk : k = BitVec.ofNat 32 b.val) =>
    congrArg (a (ix2 0 c) + ·) (Finset.sum_congr rfl fun r _ => hit_word (by decide) _ b _ k ((hv r c).trans (lWord_eq _)) hk :
      (∑ r : Fin 512, (FloatOps.sitofp (F := Ideal) .f32 ((IntOp.cmpi .eq (v (ix2 r c)) k).setWidth 32) : EReal)) = lcount (rows t) b c)
  exact ⟨h 0 _ rfl, h 1 _ rfl, h 2 _ rfl⟩

end Cert.Point

end
-- ==== Proof.Step.lean ====
/- What the three running sums hold after each grid point of the kernel. -/
module

public import Idealize.ShloMosaic.Lib.Pipeline.ValueKit
public import Idealize.ShloMosaic.Lib.Pipeline.ReadBack
public import proofs.«01_k».proof.Proof.Point

@[expose] public section

set_option maxRecDepth 16384

noncomputable section

namespace Cert.Step

open Cert.KernelIdeal Cert.KernelIdeal.Gen Cert.Spec Cert.Point Idealize.ShloMosaic

variable (m : (ℓ : Loc nD τ sig) → Buf (Elt Ideal) ℓ) (c : Dev nD)

/-- The running loss after point `n`. -/
abbrev accL (n : ℕ) (hn : n < cfg0.N) : EReal := (outsAt0 m c n hn).2.2.2.1 (ix1 0)
/-- The running gradient counts after point `n`. -/
abbrev accG (n : ℕ) (hn : n < cfg0.N) (b : Fin 10) : EReal := (outsAt0 m c n hn).2.2.2.2.1 (ix1 b)
/-- The running target counts after point `n`. -/
abbrev accT (n : ℕ) (hn : n < cfg0.N) (b : Fin 3) (k : Fin 1000) : EReal := (outsAt0 m c n hn).2.2.2.2.2 (ix2 b k)

/-- What point `t` adds to the running loss. -/
abbrev dL (t : Fin cfg0.N) : EReal := lossSum (rows (iblk m c 0 t)) (rows (iblk m c 1 t)) (tab (iblk m c 2 t)) (rows (iblk m c 3 t))

/-- The point before a point is a point. -/
theorem prev_lt (t : Fin cfg0.N) : t.val - 1 < cfg0.N := Nat.lt_of_le_of_lt (Nat.sub_le _ _) t.isLt

/-- The value that a point stores into the running loss, over what it held. -/
theorem loss_point (x t : Vec Ideal S512x1000 .f32) (g : Vec Ideal S1x10 .f32) (l : Vec Ideal S3x1000 .f32) (a : Elt Ideal .f32) :
    k0_pay4 (F := Ideal) (k0_pay33 x t) (k0_pay35 t)
      (k0_pay60 (k0_pay34 x t) (k0_pay53 (k0_pay34 x t) (k0_pay47 (k0_pay34 x t) (k0_pay39 (k0_pay34 x t) (tab g 0) (tab g 1))
        (k0_pay41 (k0_pay34 x t)) (k0_pay42 (tab g 2)) (tab g 3) (tab g 4)) (tab g 5) (tab g 6))
        (k0_pay55 (k0_pay34 x t)) (tab g 7) (tab g 8) (tab g 9))
      (k0_pay62 l) (k0_pay66 (k0_pay35 t) l) a = (a + lossSum (rows x) (rows t) (tab g) (rows l) : EReal) :=
  pay4_apply x t l _ _ _ (tab g) a (pay33_apply x t) (pay35_apply t) (pay60_apply x t _ (pay34_apply x t) (tab g))

/-- The one-element rectangle at bin `k` is that bin. -/
theorem emb_bin (k : Fin 10) (inb : ∀ a, (![k.val] : Fin 1 → ℕ) a + (![1] : Fin 1 → ℕ) a ≤ S10.size a) (q : (Rect.unit (s := S10) ![k.val] ![1] inb).shape.Idx) :
    (Rect.unit (s := S10) ![k.val] ![1] inb).emb q 0 = k := by
  apply Fin.ext
  have hq : (q 0).val < 1 := (q 0).isLt
  show k.val + 1 * (q 0).val = k.val
  omega

/-- The one-row rectangle at row `k` is that row. -/
theorem emb_row (k : Fin 3) (inb : ∀ a, (![k.val, 0] : Fin 2 → ℕ) a + (![1, 1000] : Fin 2 → ℕ) a ≤ S3x1000.size a) (j : Fin 1000) :
    (Rect.unit (s := S3x1000) ![k.val, 0] ![1, 1000] inb).emb (ix2 (0 : Fin 1) j) = ix2 k j := by
  funext a
  apply Fin.ext
  match a with
  | ⟨0, _⟩ => show k.val + 1 * 0 = k.val; omega
  | ⟨1, _⟩ => show 0 + 1 * j.val = j.val; omega

/-- Ten stores, one per bin, of what `p` holds plus the block's count leave exactly that, whatever was stored before. -/
theorem stores_G (x t : Vec Ideal S512x1000 .f32) (p : Fin 10 → Elt Ideal .f32) (L : List (View.Piece (Elt Ideal) S10 .f32)) (b : Fin 10) :
    View.canon ([⟨Rect.unit ![9] ![1] inb_S10_S1_9, fun _ => k0_pay61 (k0_pay59 (k0_pay34 x t)) (p 9)⟩,
        ⟨Rect.unit ![8] ![1] inb_S10_S1_8, fun _ => k0_pay58 (k0_pay34 x t) (p 8)⟩,
        ⟨Rect.unit ![7] ![1] inb_S10_S1_7, fun _ => k0_pay56 (k0_pay55 (k0_pay34 x t)) (p 7)⟩,
        ⟨Rect.unit ![6] ![1] inb_S10_S1_6, fun _ => k0_pay54 (k0_pay34 x t) (p 6)⟩,
        ⟨Rect.unit ![5] ![1] inb_S10_S1_5, fun _ => k0_pay51 (k0_pay34 x t) (p 5)⟩,
        ⟨Rect.unit ![4] ![1] inb_S10_S1_4, fun _ => k0_pay49 (p 4) (k0_pay48 (k0_pay34 x t))⟩,
        ⟨Rect.unit ![3] ![1] inb_S10_S1_3, fun _ => k0_pay45 (k0_pay34 x t) (p 3)⟩,
        ⟨Rect.unit ![2] ![1] inb_S10_S1_2, fun _ => k0_pay43 (k0_pay41 (k0_pay34 x t)) (p 2)⟩,
        ⟨Rect.unit ![1] ![1] inb_S10_S1_1, fun _ => k0_pay40 (k0_pay34 x t) (p 1)⟩,
        ⟨Rect.unit ![0] ![1] inb_S10_S1_0, fun _ => k0_pay37 (k0_pay34 x t) (p 0)⟩] ++ L) (ix1 b)
      = (p b + gcount (rows x) (rows t) b : EReal) := by
  have h := fun a => pay_counts x t (k0_pay34 x t) (pay34_apply x t) a
  refine View.canon_append_of_piecesOf (Val := Elt Ideal) (fun y : S10.Idx => (p (y 0) + gcount (rows x) (rows t) (y 0) : EReal)) L _ ?_ (ix1 b) ?_
  · have e := fun (k : Fin 10) inb q => congrArg (fun b => (p b + gcount (rows x) (rows t) b : EReal)) (emb_bin k inb q).symm
    exact ⟨fun q => (h _).2.2.2.2.2.2.2.2.2.trans (e 9 inb_S10_S1_9 q),
      fun q => (h _).2.2.2.2.2.2.2.2.1.trans (e 8 inb_S10_S1_8 q),
      fun q => (h _).2.2.2.2.2.2.2.1.trans (e 7 inb_S10_S1_7 q),
      fun q => (h _).2.2.2.2.2.2.1.trans (e 6 inb_S10_S1_6 q),
      fun q => (h _).2.2.2.2.2.1.trans (e 5 inb_S10_S1_5 q),
      fun q => (h _).2.2.2.2.1.trans (e 4 inb_S10_S1_4 q),
      fun q => (h _).2.2.2.1.trans (e 3 inb_S10_S1_3 q),
      fun q => (h _).2.2.1.trans (e 2 inb_S10_S1_2 q),
      fun q => (h _).2.1.trans (e 1 inb_S10_S1_1 q),
      fun q => (h _).1.trans (e 0 inb_S10_S1_0 q), trivial⟩
  · exact View.cover_of_tiledL _ ![1] (by sl_kernel_rfl) _

/-- Three stores, one per bin, of what `p` holds in that row plus the block's counts leave exactly that, whatever was stored before. -/
theorem stores_T (t : Vec Ideal S512x1000 .f32) (p : Vec Ideal S3x1000 .f32) (L : List (View.Piece (Elt Ideal) S3x1000 .f32)) (b : Fin 3) (k : Fin 1000) :
    View.canon ([⟨Rect.unit ![2, 0] ![1, 1000] inb_S3x1000_S1x1000_2_0, k0_pay3 (k0_pay35 t) (View.ld p (Rect.unit ![2, 0] ![1, 1000] inb_S3x1000_S1x1000_2_0))⟩,
        ⟨Rect.unit ![1, 0] ![1, 1000] inb_S3x1000_S1x1000_1_0, k0_pay1 (View.ld p (Rect.unit ![1, 0] ![1, 1000] inb_S3x1000_S1x1000_1_0)) (k0_pay67 (k0_pay35 t))⟩,
        ⟨Rect.unit ![0, 0] ![1, 1000] inb_S3x1000_S1x1000_0_0, k0_pay64 (k0_pay35 t) (View.ld p (Rect.unit ![0, 0] ![1, 1000] inb_S3x1000_S1x1000_0_0))⟩] ++ L) (ix2 b k)
      = (p (ix2 b k) + lcount (rows t) b k : EReal) := by
  have h := fun a => pay_lcounts t (k0_pay35 t) (pay35_apply t) a
  refine View.canon_append_of_piecesOf (Val := Elt Ideal) (fun y : S3x1000.Idx => (p y + lcount (rows t) (y 0) (y 1) : EReal)) L _ ?_ (ix2 b k) ?_
  · have e := fun (k : Fin 3) inb (q : S1x1000.Idx) => congrArg (fun y : S3x1000.Idx => (p y + lcount (rows t) (y 0) (y 1) : EReal)) (emb_row k inb (q 1)).symm
    have l := fun (k : Fin 3) inb (q : S1x1000.Idx) => congrArg (fun y => (p y + lcount (rows t) k (q 1) : EReal)) (emb_row k inb (q 1))
    have u := fun q : S1x1000.Idx => (eq_ix2 q).trans (congrArg (fun i : Fin 1 => ix2 i (q 1)) (Fin.eq_zero (q 0 : Fin 1)))
    refine ⟨fun (q : S1x1000.Idx) => ?_, fun (q : S1x1000.Idx) => ?_, fun (q : S1x1000.Idx) => ?_, trivial⟩ <;> rw [u q]
    · exact (h _ _).2.2.trans ((l 2 inb_S3x1000_S1x1000_2_0 q).trans (e 2 inb_S3x1000_S1x1000_2_0 q))
    · exact (h _ _).2.1.trans ((l 1 inb_S3x1000_S1x1000_1_0 q).trans (e 1 inb_S3x1000_S1x1000_1_0 q))
    · exact (h _ _).1.trans ((l 0 inb_S3x1000_S1x1000_0_0 q).trans (e 0 inb_S3x1000_S1x1000_0_0 q))
  · exact View.cover_of_tiledL _ ![1, 1000] (by sl_kernel_rfl) _

/-- The only index of a one-element table. -/
theorem first_one (h : 0 < S1.numel) : (Shape.Idx.first h : S1.Idx) = ix1 0 :=
  (eq_ix1 _).trans (congrArg (fun i : Fin 1 => ix1 i) (Fin.eq_zero _))

/-- The fill of the target counts is zero everywhere. -/
theorem pay31_apply (b : Fin 3) (k : Fin 1000) : k0_pay31 (F := Ideal) (ix2 b k) = (0 : EReal) := by
  pointwise [k0_pay31]

/-! ## The three sums after a point: the first (A), a middle one (B), the last (C) -/

/-- The first point leaves its block's loss. -/
theorem accL_A (t : Fin cfg0.N) (h0 : t.val % 32 = 0) (h1 : ¬t.val % 32 = 31) :
    accL m c t.val t.isLt = dL m c t := by
  unfold accL
  rw [outsAt0_A m c t h0 h1]
  dsimp only
  frame_open
  simp (disch := decide) only [↓ View.readCov_skip, ↓ View.readCov_cons_toLoadRect, ↓ View.readCov_fill]
  frame_out
  pointwise
  exact (loss_point (iblk m c 0 t) (iblk m c 1 t) (iblk m c 2 t) (iblk m c 3 t) (0 : EReal)).trans (zero_add _)

/-- A middle point adds its block's loss. -/
theorem accL_B (t : Fin cfg0.N) (h0 : ¬t.val % 32 = 0) (h1 : ¬t.val % 32 = 31) :
    accL m c t.val t.isLt = accL m c (t.val - 1) (prev_lt t) + dL m c t := by
  unfold accL
  rw [outsAt0_B m c t h0 h1]
  dsimp only
  frame_open
  simp (disch := decide) only [↓ View.readCov_skip, ↓ View.readCov_cons_toLoadRect, ↓ View.readCov_fill]
  frame_out
  pointwise [read_unread_whole, first_one]
  exact loss_point (iblk m c 0 t) (iblk m c 1 t) (iblk m c 2 t) (iblk m c 3 t) (accL m c (t.val - 1) (prev_lt t))

/-- The last point adds its block's loss. -/
theorem accL_C (t : Fin cfg0.N) (h0 : ¬t.val % 32 = 0) (h1 : t.val % 32 = 31) :
    accL m c t.val t.isLt = accL m c (t.val - 1) (prev_lt t) + dL m c t := by
  unfold accL
  rw [outsAt0_C m c t h0 h1]
  dsimp only
  frame_open
  simp (disch := decide) only [↓ View.readCov_skip, ↓ View.readCov_cons_toLoadRect, ↓ View.readCov_fill]
  frame_out
  pointwise [read_unread_whole, first_one]
  exact loss_point (iblk m c 0 t) (iblk m c 1 t) (iblk m c 2 t) (iblk m c 3 t) (accL m c (t.val - 1) (prev_lt t))

/-- The first point leaves its block's gradient counts. -/
theorem accG_A (t : Fin cfg0.N) (h0 : t.val % 32 = 0) (h1 : ¬t.val % 32 = 31) (b : Fin 10) :
    accG m c t.val t.isLt b = gcount (rows (iblk m c 0 t)) (rows (iblk m c 1 t)) b := by
  unfold accG
  rw [outsAt0_A m c t h0 h1]
  dsimp only
  frame_open
  simp (disch := decide) only [↓ View.readCov_skip, ↓ View.readCov_cons_toLoadRect, ↓ View.readCov_fill]
  frame_out
  pointwise
  exact (stores_G (iblk m c 0 t) (iblk m c 1 t) (fun _ => (0 : EReal)) _ b).trans (zero_add _)

/-- A middle point adds its block's gradient counts. -/
theorem accG_B (t : Fin cfg0.N) (h0 : ¬t.val % 32 = 0) (h1 : ¬t.val % 32 = 31) (b : Fin 10) :
    accG m c t.val t.isLt b = accG m c (t.val - 1) (prev_lt t) b + gcount (rows (iblk m c 0 t)) (rows (iblk m c 1 t)) b := by
  unfold accG
  rw [outsAt0_B m c t h0 h1]
  dsimp only
  frame_open
  simp (disch := decide) only [↓ View.readCov_skip, ↓ View.readCov_cons_toLoadRect, ↓ View.readCov_fill]
  frame_out
  pointwise [read_unread_whole]
  exact stores_G (iblk m c 0 t) (iblk m c 1 t) (accG m c (t.val - 1) (prev_lt t)) [] b

/-- The last point adds its block's gradient counts. -/
theorem accG_C (t : Fin cfg0.N) (h0 : ¬t.val % 32 = 0) (h1 : t.val % 32 = 31) (b : Fin 10) :
    accG m c t.val t.isLt b = accG m c (t.val - 1) (prev_lt t) b + gcount (rows (iblk m c 0 t)) (rows (iblk m c 1 t)) b := by
  unfold accG
  rw [outsAt0_C m c t h0 h1]
  dsimp only
  frame_open
  simp (disch := decide) only [↓ View.readCov_skip, ↓ View.readCov_cons_toLoadRect, ↓ View.readCov_fill]
  frame_out
  pointwise [read_unread_whole]
  exact stores_G (iblk m c 0 t) (iblk m c 1 t) (accG m c (t.val - 1) (prev_lt t)) [] b

/-- The first point leaves its block's label counts. -/
theorem accT_A (t : Fin cfg0.N) (h0 : t.val % 32 = 0) (h1 : ¬t.val % 32 = 31) (b : Fin 3) (k : Fin 1000) :
    accT m c t.val t.isLt b k = lcount (rows (iblk m c 1 t)) b k := by
  unfold accT
  rw [outsAt0_A m c t h0 h1]
  dsimp only
  frame_open
  simp (disch := decide) only [↓ View.readCov_skip, ↓ View.readCov_cons_toLoadRect, ↓ View.readCov_fill]
  frame_out
  exact (stores_T (iblk m c 1 t) (k0_pay31 (F := Ideal)) [_] b k).trans (congrArg (· + _) (pay31_apply b k) |>.trans (zero_add _))

/-- A middle point adds its block's label counts. -/
theorem accT_B (t : Fin cfg0.N) (h0 : ¬t.val % 32 = 0) (h1 : ¬t.val % 32 = 31) (b : Fin 3) (k : Fin 1000) :
    accT m c t.val t.isLt b k = accT m c (t.val - 1) (prev_lt t) b k + lcount (rows (iblk m c 1 t)) b k := by
  unfold accT
  rw [outsAt0_B m c t h0 h1]
  dsimp only
  frame_open
  simp (disch := decide) only [↓ View.readCov_skip, ↓ View.readCov_cons_toLoadRect, ↓ View.readCov_fill]
  frame_out
  simp only [read_unread_whole]
  exact stores_T (iblk m c 1 t) (outsAt0 m c (t.val - 1) (prev_lt t)).2.2.2.2.2 [] b k

/-- The last point adds its block's label counts. -/
theorem accT_C (t : Fin cfg0.N) (h0 : ¬t.val % 32 = 0) (h1 : t.val % 32 = 31) (b : Fin 3) (k : Fin 1000) :
    accT m c t.val t.isLt b k = accT m c (t.val - 1) (prev_lt t) b k + lcount (rows (iblk m c 1 t)) b k := by
  unfold accT
  rw [outsAt0_C m c t h0 h1]
  dsimp only
  frame_open
  simp (disch := decide) only [↓ View.readCov_skip, ↓ View.readCov_cons_toLoadRect, ↓ View.readCov_fill]
  frame_out
  simp only [read_unread_whole]
  exact stores_T (iblk m c 1 t) (outsAt0 m c (t.val - 1) (prev_lt t)).2.2.2.2.2 [] b k

end Cert.Step

end
-- ==== Proof.Out.lean ====
/- What the last grid point writes to the three results. -/
module

public import Idealize.ShloMosaic.Lib.Pipeline.ValueKit
public import Idealize.ShloMosaic.Lib.Pipeline.ReadBack
public import proofs.«01_k».proof.Proof.Step

@[expose] public section

set_option maxRecDepth 16384

noncomputable section

namespace Cert.Out

open Cert.KernelIdeal Cert.KernelIdeal.Gen Cert.Spec Cert.Point Cert.Step Idealize.ShloMosaic

variable (m : (ℓ : Loc nD τ sig) → Buf (Elt Ideal) ℓ) (c : Dev nD)

/-- The mean loss: the total over the number of elements. -/
theorem outL (t : Fin cfg0.N) (h0 : ¬t.val % 32 = 0) (h1 : t.val % 32 = 31) :
    (outsAt0 m c t.val t.isLt).1 (ix2 0 0) = Ideal.div (accL m c t.val t.isLt) (Ideal.ofBits .f32 0x4B7A0000#32) := by
  rw [accL_C m c t h0 h1, outsAt0_C m c t h0 h1]
  dsimp only
  frame_open
  simp (disch := decide) only [↓ View.readCov_skip, ↓ View.readCov_cons_toLoadRect, ↓ View.readCov_fill]
  frame_out
  pointwise [read_unread_whole, first_one]
  exact congrArg (k0_pay7 (F := Ideal)) (loss_point (iblk m c 0 t) (iblk m c 1 t) (iblk m c 2 t) (iblk m c 3 t) (accL m c (t.val - 1) (prev_lt t)))

/-- Ten numbers added one after another. -/
theorem sum_ten (f : Fin 10 → EReal) (z : EReal) :
    z + f 0 + f 1 + f 2 + f 3 + f 4 + f 5 + f 6 + f 7 + f 8 + f 9 = (∑ j, f j) + z := by
  rw [Fin.sum_univ_castSucc, Fin.sum_univ_castSucc, Fin.sum_univ_eight, add_comm _ z]
  simp only [add_assoc]
  rfl

/-- The factor of the gradient table: the number of its entries. -/
abbrev K10 : EReal := Ideal.ofBits .f32 0x41200000#32
/-- The small number that keeps a sum from being zero. -/
abbrev eps : EReal := Ideal.ofBits .f32 0x2EDBE6FF#32

section
variable (o a : Fin 10 → Elt Ideal .f32)

/-- The sum of ten numbers and the small number, as the body adds them. -/
theorem pay8_apply : k0_pay8 (F := Ideal) (a 0) (a 1) (a 2) (a 3) (a 4) (a 5) (a 6) (a 7) (a 8) (a 9) = ((∑ j, a j) + eps : EReal) :=
  sum_ten a _

/-- The ten blended entries, as the last point computes them. -/
theorem pay_blend :
    k0_pay9 (F := Ideal) (a 0) (a 1) (a 2) (a 3) (a 4) (a 5) (a 6) (a 7) (a 8) (a 9) (o 0) (a 0) = blend K10 o a 0
    ∧ k0_pay12 (F := Ideal) (k0_pay10 (o 1)) (k0_pay11 (a 0) (a 1) (a 2) (a 3) (a 4) (a 5) (a 6) (a 7) (a 8) (a 9) (a 1)) = blend K10 o a 1
    ∧ k0_pay13 (F := Ideal) ((∑ j, a j) + eps : EReal) (o 2) (a 2) = blend K10 o a 2
    ∧ k0_pay14 (F := Ideal) ((∑ j, a j) + eps : EReal) (o 3) (a 3) = blend K10 o a 3
    ∧ k0_pay15 (F := Ideal) ((∑ j, a j) + eps : EReal) (o 4) (a 4) = blend K10 o a 4
    ∧ k0_pay16 (F := Ideal) ((∑ j, a j) + eps : EReal) (o 5) (a 5) = blend K10 o a 5
    ∧ k0_pay17 (F := Ideal) ((∑ j, a j) + eps : EReal) (o 6) (a 6) = blend K10 o a 6
    ∧ k0_pay18 (F := Ideal) ((∑ j, a j) + eps : EReal) (o 7) (a 7) = blend K10 o a 7
    ∧ k0_pay19 (F := Ideal) ((∑ j, a j) + eps : EReal) (o 8) (a 8) = blend K10 o a 8
    ∧ k0_pay20 (F := Ideal) ((∑ j, a j) + eps : EReal) (o 9) (a 9) = blend K10 o a 9 := by
  simp only [k0_pay9, k0_pay11, pay8_apply]
  exact ⟨rfl, rfl, rfl, rfl, rfl, rfl, rfl, rfl, rfl, rfl⟩

/-- Their sum. -/
theorem pay21_apply :
    k0_pay21 (F := Ideal) ((∑ j, a j) + eps : EReal) (blend K10 o a 0) (blend K10 o a 1) (blend K10 o a 2) (blend K10 o a 3)
      (blend K10 o a 4) (blend K10 o a 5) (o 6) (a 6) (o 7) (a 7) (o 8) (a 8) (o 9) (a 9) = ((∑ j, blend K10 o a j) + eps : EReal) :=
  sum_ten (blend K10 o a) _

end

/-- The one-element rectangle at entry `k` of the gradient table is that entry. -/
theorem emb_entry (k : Fin 10) (inb : ∀ a, (![0, k.val] : Fin 2 → ℕ) a + (![1, 1] : Fin 2 → ℕ) a ≤ S1x10.size a)
    (q : (Rect.unit (s := S1x10) ![0, k.val] ![1, 1] inb).shape.Idx) : (Rect.unit (s := S1x10) ![0, k.val] ![1, 1] inb).emb q 1 = k := by
  apply Fin.ext
  have hq : (q 1).val < 1 := (q 1).isLt
  show k.val + 1 * (q 1).val = k.val
  omega

/-- The new table of gradient weights. -/
theorem outG (t : Fin cfg0.N) (h0 : ¬t.val % 32 = 0) (h1 : t.val % 32 = 31) (b : Fin 10) :
    (outsAt0 m c t.val t.isLt).2.1 (ix2 0 b)
      = ema (Ideal.ofBits .f32 0x41200000#32) (tab (iblk m c 2 t)) (accG m c t.val t.isLt) b := by
  have hc := accG_C m c t h0 h1
  generalize accG m c t.val t.isLt = A at hc ⊢
  rw [outsAt0_C m c t h0 h1]
  dsimp only
  frame_open
  simp (disch := decide) only [↓ View.readCov_skip, ↓ View.readCov_cons_toLoadRect, ↓ View.readCov_fill]
  frame_out
  pointwise [read_unread_whole, first_one]
  have h := fun a => pay_counts (iblk m c 0 t) (iblk m c 1 t) (k0_pay34 (iblk m c 0 t) (iblk m c 1 t)) (pay34_apply (iblk m c 0 t) (iblk m c 1 t)) a
  simp only [fun a => (h a).1, fun a => (h a).2.1, fun a => (h a).2.2.1, fun a => (h a).2.2.2.1, fun a => (h a).2.2.2.2.1,
    fun a => (h a).2.2.2.2.2.1, fun a => (h a).2.2.2.2.2.2.1, fun a => (h a).2.2.2.2.2.2.2.1, fun a => (h a).2.2.2.2.2.2.2.2.1,
    fun a => (h a).2.2.2.2.2.2.2.2.2, ← hc]
  obtain ⟨b0, b1, b2, b3, b4, b5, b6, b7, b8, b9⟩ := pay_blend (tab (iblk m c 2 t)) A
  have e := pay21_apply (tab (iblk m c 2 t)) A
  simp only [pay8_apply A]
  simp only [b0, b1, b2, b3, b4, b5, b6, b7, b8, b9, e]
  refine (congrArg (fun L => View.canon L (ix2 0 b)) (List.append_nil _).symm).trans ?_
  refine View.canon_append_of_piecesOf (Val := Elt Ideal) (e := .f32) (fun y : S1x10.Idx => ema K10 (tab (iblk m c 2 t)) A (y 1)) [] _ ?_ (ix2 0 b) ?_
  · have e := fun (k : Fin 10) inb q => congrArg (ema K10 (tab (iblk m c 2 t)) A) (emb_entry k inb q).symm
    exact ⟨e 9 inb_S1x10_S1x1_0_9,
      e 8 inb_S1x10_S1x1_0_8,
      e 7 inb_S1x10_S1x1_0_7,
      e 6 inb_S1x10_S1x1_0_6,
      e 5 inb_S1x10_S1x1_0_5,
      e 4 inb_S1x10_S1x1_0_4,
      e 3 inb_S1x10_S1x1_0_3,
      e 2 inb_S1x10_S1x1_0_2,
      e 1 inb_S1x10_S1x1_0_1,
      e 0 inb_S1x10_S1x1_0_0, trivial⟩
  · exact View.cover_of_tiledL _ ![1, 1] (by sl_kernel_rfl) _

/-- Three thousand entries blended and normalised, as the last point computes them. -/
theorem pay6_apply (v l : Vec Ideal S3x1000 .f32) (b : Fin 3) (k : Fin 1000) :
    k0_pay6 (F := Ideal) v l (ix2 b k)
      = ema (Ideal.ofBits .f32 0x453B8000#32) (fun p : Fin 3 × Fin 1000 => l (ix2 p.1 p.2)) (fun p => v (ix2 p.1 p.2)) (b, k) := by
  pointwise [k0_pay6]
  simp only [ema, Spec.norm, blend, Fintype.sum_prod_type]

/-- The new table of target weights. -/
theorem outT (t : Fin cfg0.N) (h0 : ¬t.val % 32 = 0) (h1 : t.val % 32 = 31) (b : Fin 3) (k : Fin 1000) :
    (outsAt0 m c t.val t.isLt).2.2.1 (ix2 b k)
      = ema (Ideal.ofBits .f32 0x453B8000#32) (fun p : Fin 3 × Fin 1000 => iblk m c 3 t (ix2 p.1 p.2))
          (fun p => accT m c t.val t.isLt p.1 p.2) (b, k) := by
  have hc := accT_C m c t h0 h1
  generalize accT m c t.val t.isLt = A at hc ⊢
  rw [outsAt0_C m c t h0 h1]
  dsimp only
  frame_open
  simp (disch := decide) only [↓ View.readCov_skip, ↓ View.readCov_cons_toLoadRect, ↓ View.readCov_fill]
  frame_out
  rw [pay6_apply]
  refine congrFun (congrArg (ema _ _) (funext fun p => ?_)) _
  rw [View.readCov_eq_canon_ld _ _ _ (View.cover_of_tiledL _ ![1, 1000] (by sl_kernel_rfl)), hc]
  simp only [read_unread_whole]
  rw [View.ld_unit_zero (by decide : (![0, 0] : Fin S3x1000.rank → ℕ) = fun _ => 0)]
  exact stores_T (iblk m c 1 t) (outsAt0 m c (t.val - 1) (prev_lt t)).2.2.2.2.2 [] p.1 p.2

end Cert.Out

end
-- ==== Proof.Final.lean ====
/- The three results of the kernel, over the whole argument arrays. -/
module

public import Idealize.ShloMosaic.Lib.Pipeline.ValueKit
public import Idealize.ShloMosaic.Lib.Claim
public import proofs.«01_k».proof.Proof.Out

@[expose] public section

set_option maxRecDepth 16384

noncomputable section

namespace Cert.Final

open Cert.KernelIdeal Cert.KernelIdeal.Gen Cert.Spec Cert.Point Cert.Step Cert.Out Idealize.ShloMosaic Idealize.ShloMosaic.TcCoe

variable (m : (ℓ : Loc nD τ sig) → Buf (Elt Ideal) ℓ) (c : Dev nD)

/-! ## The windows' blocks, over the arguments -/

/-- The argument arrays. -/
abbrev X : Vec Ideal S16384x1000 .f32 := m ((c : Thread nD τ).loc main_arg0)
abbrev T : Vec Ideal S16384x1000 .f32 := m ((c : Thread nD τ).loc main_arg1)
abbrev G : Vec Ideal S10 .f32 := m ((c : Thread nD τ).loc main_arg3)
abbrev L : Vec Ideal S3000 .f32 := m ((c : Thread nD τ).loc main_arg4)

/-- Each window's block index. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- Row `r` of block `t` lies in the array. -/
theorem row_lt (t : Fin cfg0.N) (r : Fin 512) : t.val * 512 + r.val < 16384 := by
  have := lt_of_lt_of_eq t.isLt (show cfg0.N = 32 from N_0)
  omega

/-- Block `t` of the logits is rows `512 t` to `512 t + 511`. -/
theorem block_x (t : Fin cfg0.N) (r : Fin 512) (k : Fin 1000) : iblk m c 0 t (ix2 r k) = X m c (ix2 ⟨t.val * 512 + r.val, row_lt t r⟩ k) := by
  blk_ext! [iblk, V, idx t]

/-- Block `t` of the targets is the same rows. -/
theorem block_t (t : Fin cfg0.N) (r : Fin 512) (k : Fin 1000) : iblk m c 1 t (ix2 r k) = T m c (ix2 ⟨t.val * 512 + r.val, row_lt t r⟩ k) := by
  blk_ext! [iblk, V, idx t]

/-- The gradient table as one row. -/
theorem host_g (b : Fin 10) : V m c main_v2 (ix2 0 b) = G m c (ix1 b) := by
  unfold V V0 hostOps0
  simp only [List.flatten_cons, List.flatten_nil, List.append_nil]
  after_results
  pointwise

/-- The target table as one row per bin. -/
theorem host_l (b : Fin 3) (k : Fin 1000) : V m c main_v1 (ix2 b k) = L m c (ix1 ⟨3 * k.val + b.val, by omega⟩) := by
  unfold V V0 hostOps0
  simp only [List.flatten_cons, List.flatten_nil, List.append_nil]
  after_results
  pointwise
  blk_ext

/-- The gradient table is whole at every point. -/
theorem block_g (t : Fin cfg0.N) (b : Fin 10) : iblk m c 2 t (ix2 0 b) = G m c (ix1 b) := by
  refine Eq.trans ?_ (host_g m c b)
  blk_ext [iblk, idx t]

/-- The label table is whole at every point. -/
theorem block_l (t : Fin cfg0.N) (b : Fin 3) (k : Fin 1000) : iblk m c 3 t (ix2 b k) = L m c (ix1 ⟨3 * k.val + b.val, by omega⟩) := by
  refine Eq.trans ?_ (host_l m c b k)
  blk_ext [iblk, idx t]

/-! ## The sums after the last point -/

/-- The last point. -/
abbrev tl : Fin cfg0.N := ⟨31, lt_of_lt_of_eq (by decide : 31 < 32) (show cfg0.N = 32 from N_0).symm⟩

/-- The first point is not the last. -/
theorem not_mod (t : Fin cfg0.N) (h : t.val % 32 = 0) : ¬t.val % 32 = 31 := by omega

/-- After the last point the loss is the sum of the points' losses. -/
theorem totalL : accL m c 31 tl.isLt = ∑ p : Fin cfg0.N, dL m c p := by
  have h := Pipeline.eq_sum_fin_of_reset_step_apply_last (fun n hn (_ : Unit) => accL m c n hn) 32 (fun _ => 0) (fun t _ => dL m c t)
    (fun t h _ => (accL_A m c t h (not_mod t h)).trans (zero_add _).symm)
    (fun t h _ => if h1 : t.val % 32 = 31 then accL_C m c t h h1 else accL_B m c t h h1) (le_of_eq N_0) tl N_0.symm ()
  exact h.trans (zero_add _)

/-- After the last point a gradient bin holds the sum of the blocks' counts. -/
theorem totalG (b : Fin 10) : accG m c 31 tl.isLt b = ∑ p : Fin cfg0.N, gcount (rows (iblk m c 0 p)) (rows (iblk m c 1 p)) b := by
  have h := Pipeline.eq_sum_fin_of_reset_step_apply_last (fun n hn (_ : Unit) => accG m c n hn b) 32 (fun _ => 0)
    (fun t _ => gcount (rows (iblk m c 0 t)) (rows (iblk m c 1 t)) b)
    (fun t h _ => (accG_A m c t h (not_mod t h) b).trans (zero_add _).symm)
    (fun t h _ => if h1 : t.val % 32 = 31 then accG_C m c t h h1 b else accG_B m c t h h1 b) (le_of_eq N_0) tl N_0.symm ()
  exact h.trans (zero_add _)

/-- After the last point a label bin holds the sum of the blocks' counts. -/
theorem totalT (b : Fin 3) (k : Fin 1000) : accT m c 31 tl.isLt b k = ∑ p : Fin cfg0.N, lcount (rows (iblk m c 1 p)) b k := by
  have h := Pipeline.eq_sum_fin_of_reset_step_apply_last (fun n hn (_ : Unit) => accT m c n hn b k) 32 (fun _ => 0)
    (fun t _ => lcount (rows (iblk m c 1 t)) b k)
    (fun t h _ => (accT_A m c t h (not_mod t h) b k).trans (zero_add _).symm)
    (fun t h _ => if h1 : t.val % 32 = 31 then accT_C m c t h h1 b k else accT_B m c t h h1 b k) (le_of_eq N_0) tl N_0.symm ()
  exact h.trans (zero_add _)

/-! ## Over the whole arrays -/

/-- The old gradient table, by bin. -/
abbrev oldG (b : Fin 10) : EReal := G m c (ix1 b)
/-- The old label table, by bin and class. -/
abbrev oldL (b : Fin 3) (k : Fin 1000) : EReal := L m c (ix1 ⟨3 * k.val + b.val, by omega⟩)

/-- A sum over the points of sums over their rows is the sum over all rows. -/
theorem sum_rows (g : Fin 16384 → EReal) : ∑ p : Fin cfg0.N, ∑ r : Fin 512, g ⟨p.val * 512 + r.val, row_lt p r⟩ = ∑ r, g r :=
  Fin.sum_mul_add_fin cfg0.N 512 g (by rw [show cfg0.N = 32 from N_0])

/-- That is the loss of all rows. -/
theorem sumL : accL m c 31 tl.isLt = lossSum (rows (X m c)) (rows (T m c)) (oldG m c) (oldL m c) := by
  refine (totalL m c).trans (Eq.trans (Finset.sum_congr rfl fun p _ => ?_)
    (sum_rows fun r => ∑ k, elemLoss (rows (X m c) r k) (rows (T m c) r k) (oldG m c) fun b => oldL m c b k))
  have hx : rows (iblk m c 0 p) = fun (r : Fin 512) k => rows (X m c) ⟨p.val * 512 + r.val, row_lt p r⟩ k := funext₂ fun r k => block_x m c p r k
  have ht : rows (iblk m c 1 p) = fun (r : Fin 512) k => rows (T m c) ⟨p.val * 512 + r.val, row_lt p r⟩ k := funext₂ fun r k => block_t m c p r k
  have hg : tab (iblk m c 2 p) = oldG m c := funext fun b => block_g m c p b
  have hl : rows (iblk m c 3 p) = oldL m c := funext₂ fun b k => block_l m c p b k
  unfold dL
  rw [hx, ht, hg, hl]
  rfl

/-- That is the count over all rows. -/
theorem sumG (b : Fin 10) : accG m c 31 tl.isLt b = gcount (rows (X m c)) (rows (T m c)) b := by
  rw [totalG]
  simp only [gcount, rows, block_x, block_t]
  exact sum_rows fun r => ∑ k, hit (gIdx (X m c (ix2 r k)) (T m c (ix2 r k))) b

/-- That is the count over all rows. -/
theorem sumT (b : Fin 3) (k : Fin 1000) : accT m c 31 tl.isLt b k = lcount (rows (T m c)) b k := by
  rw [totalT]
  simp only [lcount, rows, block_t]
  exact sum_rows fun r => hit (lIdx (T m c (ix2 r k))) b

/-! ## The results' arrays -/

/-- An index into one row is its column. -/
theorem one_row {n : ℕ} (j : (⟨2, ![1, n]⟩ : Shape).Idx) : j = ix2 (0 : Fin 1) (j 1) :=
  (eq_ix2 j).trans (congrArg (fun i : Fin 1 => ix2 i (j 1)) (Fin.eq_zero _))

/-- The loss array after the grid: the mean. -/
theorem arrL : (dats m 0 c).arrAt 4 cfg0.N = fun _ =>
    Ideal.div (lossSum (rows (X m c)) (rows (T m c)) (oldG m c) (oldL m c)) (Ideal.ofBits .f32 0x4B7A0000#32) := by
  refine (dats m 0 c).arrAt_eq_of_after_last 4 tl (by decide +kernel) _ fun (j : S1x1.Idx) => ?_
  blk_simp
  rw [after0_4, ← sumL, (one_row j).trans (congrArg (fun i : Fin 1 => ix2 (0 : Fin 1) i) (Fin.eq_zero (j 1 : Fin 1)))]
  exact outL m c tl (by decide) rfl

/-- The gradient table after the grid: the moving average. -/
theorem arrG : (dats m 0 c).arrAt 5 cfg0.N = fun i : S1x10.Idx => ema K10 (oldG m c) (gcount (rows (X m c)) (rows (T m c))) (i 1) := by
  refine (dats m 0 c).arrAt_eq_of_after_last 5 tl (by decide +kernel) _ fun (j : S1x10.Idx) => ?_
  blk_simp
  rw [after0_5, one_row j]
  refine (outG m c tl (by decide) rfl (j 1)).trans ?_
  rw [show tab (iblk m c 2 tl) = oldG m c from funext fun b => block_g m c tl b, show accG m c 31 tl.isLt = _ from funext (sumG m c)]
  rfl

/-- The label table after the grid: the moving average, one row per bin. -/
theorem arrT : (dats m 0 c).arrAt 6 cfg0.N = fun i : S3x1000.Idx => ema (Ideal.ofBits .f32 0x453B8000#32)
    (fun p : Fin 3 × Fin 1000 => oldL m c p.1 p.2) (fun p => lcount (rows (T m c)) p.1 p.2) (i 0, i 1) := by
  refine (dats m 0 c).arrAt_eq_of_after_last 6 tl (by decide +kernel) _ fun (j : S3x1000.Idx) => ?_
  blk_simp
  rw [after0_6, eq_ix2 j]
  refine (outT m c tl (by decide) rfl (j 0) (j 1)).trans ?_
  rw [show (fun p : Fin 3 × Fin 1000 => iblk m c 3 tl (ix2 p.1 p.2)) = _ from funext fun p => block_l m c tl p.1 p.2,
    show (fun p : Fin 3 × Fin 1000 => accT m c tl.val tl.isLt p.1 p.2) = _ from funext fun p => sumT m c p.1 p.2]
  rfl

end Cert.Final

end
-- ==== Proof.Tail.lean ====
/- The kernel's results as the program returns them, after the reshapes that follow the grid. -/
module

public import proofs.«01_k».proof.Proof.Final

@[expose] public section

set_option maxRecDepth 16384

noncomputable section

namespace Cert.Tail

open Cert.KernelIdeal Cert.KernelIdeal.Gen Cert.Spec Cert.Point Cert.Step Cert.Out Cert.Final Idealize.ShloMosaic Idealize.ShloMosaic.TcCoe Idealize.SL.Sem

variable (m : (ℓ : Loc nD τ sig) → Buf (Elt Ideal) ℓ) (c : Dev nD)

/-- What a buffer holds when the program ends. -/
abbrev W (b : Ref sig .tc) := Pipeline.afterTail₀ cfgs (dats m) 0 (V0 m) [hostOps1] c b

/-- No two windows share an array. -/
theorem inj : Function.Injective (Pipeline.arrRef spec0) := by decide

/-- What the grid leaves of the array behind a window. -/
theorem left (w : Fin 7) : Pipeline.withArrays (cfgs 0).spec c (V0 m c) (fun w => (dats m 0 c).arrAt w (cfgs 0).N) (Proc.devRef .tc (Pipeline.arrRef spec0 w))
    = (dats m 0 c).arrAt w cfg0.N :=
  Pipeline.withArrays_arr spec0 inj c (V0 m c) (fun w => (dats m 0 c).arrAt w (cfgs 0).N) w

/-- The first result: the mean loss. -/
theorem W_loss : W m c main_v4 = fun _ => Ideal.div (lossSum (rows (X m c)) (rows (T m c)) (oldG m c) (oldL m c)) (Ideal.ofBits .f32 0x4B7A0000#32) := by
  unfold W Pipeline.afterTail₀ hostOps1
  simp only [List.flatten_cons, List.flatten_nil, List.append_nil]
  after_results
  rw [show Pipeline.withArrays (cfgs 0).spec c (V0 m c) (fun w => (dats m 0 c).arrAt w (cfgs 0).N) (Proc.devRef .tc main_v3_0) = _
    from (left m c 4).trans (arrL m c)]
  rfl

/-- The second result: the new gradient table. -/
theorem W_g : W m c main_v5 = fun i : S10.Idx => ema K10 (oldG m c) (gcount (rows (X m c)) (rows (T m c))) (i 0) := by
  unfold W Pipeline.afterTail₀ hostOps1
  simp only [List.flatten_cons, List.flatten_nil, List.append_nil]
  after_results
  rw [show Pipeline.withArrays (cfgs 0).spec c (V0 m c) (fun w => (dats m 0 c).arrAt w (cfgs 0).N) (Proc.devRef .tc main_v3_1) = _
    from (left m c 5).trans (arrG m c)]
  funext i
  pointwise

/-- The third result: the new label table, three entries to a class. -/
theorem W_l : W m c main_v7 = fun i : S3000.Idx => ema (Ideal.ofBits .f32 0x453B8000#32) (fun p : Fin 3 × Fin 1000 => oldL m c p.1 p.2)
    (fun p => lcount (rows (T m c)) p.1 p.2) (⟨(i 0).val % 3, Nat.mod_lt _ (by decide)⟩, ⟨(i 0).val / 3, by have : (i 0).val < 3000 := (i 0).isLt; omega⟩) := by
  unfold W Pipeline.afterTail₀ hostOps1
  simp only [List.flatten_cons, List.flatten_nil, List.append_nil]
  after_results
  rw [show Pipeline.withArrays (cfgs 0).spec c (V0 m c) (fun w => (dats m 0 c).arrAt w (cfgs 0).N) (Proc.devRef .tc main_v3_2) = _
    from (left m c 6).trans (arrT m c)]
  funext i
  pointwise

/-- The kernel's run leaves its three results in their buffers. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v4) = W m c main_v4 ∧ r.2.mem ((c.tc : Thread nD τ).loc main_v5) = W m c main_v5
      ∧ r.2.mem ((c.tc : Thread nD τ).loc main_v7) = W m c main_v7 :=
  (θ_run defs _ _).mono (fun _ h c => ⟨(h c).2 main_v4 (by decide), (h c).2 main_v5 (by decide), (h c).2 main_v7 (by decide)⟩) (run_main m ρ)

end Cert.Tail
-- ==== Proof.Table.lean ====
/- Looking entries of a table up and counting into one, as the host's gather and scatter do them. -/
module

public import Idealize.ShloMosaic.Lib.ValueIdx
public import Idealize.ShloMosaic.Lib.Routing.OpsPair
public import Idealize.ShloMosaic.Lib.StableHlo.Predicate
public import Idealize.ShloMosaic.Lib.Pipeline.ValueKit
public import proofs.«01_k».proof.Proof.Spec

@[expose] public section

noncomputable section

namespace Cert.Table

open Cert.Spec Idealize.ShloMosaic

/-- A lookup of `[R, C]` entries in a table of `N`, where the index at `j` is a number below `N`. -/
theorem lookup {N R C : ℕ} {wf} (x : Vec Ideal ⟨1, ![N]⟩ .f32) (idx : IVec ⟨3, ![R, C, 1]⟩ 32) (j : (⟨2, ![R, C]⟩ : Shape).Idx) (p : Fin N)
    (hN : N < 2 ^ 31) (hp : idx (ValueIdx.takeIdx j) = BitVec.ofNat 32 p.val) :
    Host.gather (ValueIdx.takeDims N R C wf) x idx j = x (ix1 p) := by
  have := p.isLt
  rw [ValueIdx.gather_take_apply (by omega)]
  refine congrArg x (funext fun a => Fin.ext ?_)
  obtain rfl : a = 0 := Subsingleton.elim _ _
  show min (idx (ValueIdx.takeIdx j)).toInt.toNat (N - 1) = p.val
  rw [hp, StableHlo.Predicate.toInt_ofNat_small _ (by omega)]
  omega

/-- The dimension numbers of a scatter of `N` numbers, one index each, into a table of `K`. -/
abbrev countDims (K N : ℕ) (wf : ScatterDims.WF ⟨1, ![K]⟩ ⟨2, ![N, 1]⟩ ⟨1, ![N]⟩ [] [0] [0] 1) : ScatterDims ⟨1, ![K]⟩ ⟨2, ![N, 1]⟩ ⟨1, ![N]⟩ where
  updateWindowDims := []
  insertedWindowDims := [0]
  scatterDimsToOperandDims := [0]
  indexVectorDim := 1
  wf := wf

/-- Number `j` goes to the entry its index names. -/
theorem lands {K N : ℕ} {wf} (idx : IVec ⟨2, ![N, 1]⟩ 32) (j : Fin N) (b : Fin K) :
    (countDims K N wf).resultIdx? (ix1 j) idx = some (ix1 b) ↔ (idx (ix2 j 0)).toInt = (b.val : Int) := by
  rw [Routing.resultIdx?_eq_some]
  have hs : (countDims K N wf).start (ix1 j) idx 0 = (idx (ix2 j 0)).toInt := by
    unfold ScatterDims.start
    rw [dif_pos (show (0 : Fin 1) ∈ (countDims K N wf).scatterDimsToOperandDims from List.mem_singleton.mpr rfl)]
    refine congrArg (fun k => (idx k).toInt) (funext fun a => Fin.ext ?_)
    match a with
    | ⟨0, _⟩ => rfl
    | ⟨1, _⟩ => rfl
  have hw : (countDims K N wf).window (ix1 j) 0 = 0 := rfl
  constructor
  · intro h
    have := h 0
    rw [hs, hw] at this
    simpa using this
  · intro h a
    obtain rfl : a = 0 := Subsingleton.elim _ _
    rw [hs, hw, h]
    simp

/-- Adding a one at each index counts how often an entry is named. -/
theorem count {K N : ℕ} {wf} (x : Vec Ideal ⟨1, ![K]⟩ .f32) (idx : IVec ⟨2, ![N, 1]⟩ 32) (u : Vec Ideal ⟨1, ![N]⟩ .f32)
    (hx : ∀ i, x i = 0) (hu : ∀ j, u j = 1) (p : Fin N → Fin K) (hK : K < 2 ^ 31) (hp : ∀ j, idx (ix2 j 0) = BitVec.ofNat 32 (p j).val) (b : Fin K) :
    Host.scatterAdd (F := Ideal) (φ := .f32) (countDims K N wf) x idx u (ix1 b) = ∑ j, hit (p j) b := by
  show x (ix1 b) + _ = _
  rw [hx, zero_add, Finset.sum_filter, sum_idx1]
  refine Finset.sum_congr rfl fun j _ => ?_
  rw [hu]
  unfold hit
  have := (p j).isLt
  refine if_congr ((lands idx j b).trans ?_) rfl rfl
  rw [hp, StableHlo.Predicate.toInt_ofNat_small _ (by omega), Fin.ext_iff]
  omega

/-- A list of rows laid end to end, summed. -/
theorem sum_flat {R C : ℕ} (f : Fin (R * C) → EReal) (g : Fin R → Fin C → EReal) (h : ∀ r c, f ⟨r.val * C + c.val, by
    have := r.isLt; have := c.isLt; nlinarith⟩ = g r c) : ∑ j, f j = ∑ r, ∑ c, g r c := by
  rw [← Fintype.sum_prod_type', ← Equiv.sum_comp finProdFinEquiv]
  refine Finset.sum_congr rfl fun p _ => ?_
  rw [← h]
  refine congrArg f (Fin.ext ?_)
  show p.2.val + C * p.1.val = _
  ring

end Cert.Table
-- ==== Proof.Ref.lean ====
/- The reference's three results, for a mask of ones and targets between zero and one. -/
module

public import proofs.«01_k».proof.Proof.Gen.ReferenceIdeal
public import proofs.«01_k».proof.Proof.Gen.ReferenceIdeal.Run
public import proofs.«01_k».proof.Proof.Gen.ReferenceIdeal.Read
public import Idealize.ShloMosaic.Lib.IdealHost
public import proofs.«01_k».proof.Proof.Table
public import proofs.«01_k».proof.Proof.Point

@[expose] public section

set_option maxRecDepth 16384

noncomputable section

namespace Cert.Ref

open Cert.ReferenceIdeal Cert.ReferenceIdeal.Read Cert.Spec Cert.Point Cert.Table Idealize.ShloMosaic Idealize.ShloMosaic.TcCoe Idealize.SL.Sem

/-! ## Words -/

/-- A number that is not negative is not wrapped. -/
theorem wrap {n : ℕ} (h : n < 2 ^ 31) (a : BitVec 32) :
    Scalar.select (IntOp.cmpi .slt (BitVec.ofNat 32 n) 0#32) a (BitVec.ofNat 32 n) = BitVec.ofNat 32 n := by
  have : IntOp.cmpi .slt (BitVec.ofNat 32 n) 0#32 = 0#1 := by
    word_omega
  rw [this]; rfl

/-- A number that is not negative is its maximum with zero. -/
theorem max_zero {n : ℕ} (h : n < 2 ^ 31) : IntOp.maxsi 0#32 (BitVec.ofNat 32 n) = BitVec.ofNat 32 n := by
  unfold IntOp.maxsi
  refine if_neg fun e => ?_
  rw [BitVec.slt_iff_toInt_lt, StableHlo.Predicate.toInt_ofNat_small _ h] at e
  simp at e
  omega

/-- A label entry's number: three for each class before, and the target bin. -/
theorem label_word {c b : ℕ} (hc : c < 1000) (hb : b < 3) :
    IntOp.addi (BitVec.ofNat 32 b) (IntOp.muli 3#32 (BitVec.ofNat 32 c)) = BitVec.ofNat 32 (3 * c + b) := by
  unfold IntOp.muli
  word_omega

variable {x t k : Vec Ideal S16384x1000 .f32} {g : Vec Ideal S10 .f32} {l : Vec Ideal S3000 .f32}

/-! ## One element -/

/-- A target between zero and one is what clipping leaves of it. -/
theorem clip_eq (h0 : ∀ i, 0 ≤ t i) (h1 : ∀ i, t i ≤ 1) : val_main_v0 (F := Ideal) t = t := by
  funext i
  show min (Ideal.ofBits .f32 0x3F800000#32) (max (Ideal.ofBits .f32 0x00000000#32) (t i)) = t i
  rw [Ideal.ofBits_one_f32, show Ideal.ofBits .f32 0x00000000#32 = 0 from Ideal.ofBits_zero .f32, max_eq_right (h0 i), min_eq_right (h1 i)]

/-- The unweighted loss of an element. -/
theorem raw_eq (h : val_main_v0 (F := Ideal) t = t) (i : S16384x1000.Idx) : val_main_v8 (F := Ideal) x t i = raw (x i) (t i) := by
  show max (Ideal.ofBits .f32 0x00000000#32) (x i) - x i * val_main_v0 (F := Ideal) t i + Ideal.log1p (Ideal.exp (-(absE (x i)))) = _
  rw [h, show Ideal.ofBits .f32 0x00000000#32 = 0 from Ideal.ofBits_zero .f32, max_comm]
  rfl

/-- The gradient bin of an element. -/
theorem bin_eq (h : val_main_v0 (F := Ideal) t = t) (i : S16384x1000.Idx) : val_main_v21 (F := Ideal) x t i = BitVec.ofNat 32 (gIdx (x i) (t i)).val := by
  rw [← gWord_eq]
  show clampWord 9#32 (absE (Ideal.div (Ideal.ofBits .f32 0x3F800000#32) (Ideal.ofBits .f32 0x3F800000#32 + Ideal.exp (-(x i))) - val_main_v0 (F := Ideal) t i) * Ideal.ofBits .f32 0x41200000#32) = _
  rw [h, Ideal.ofBits_one_f32]
  rfl

/-- The gradient bin after the wrap of negative indices. -/
theorem bin_wrapped (h : val_main_v0 (F := Ideal) t = t) (i : S16384x1000.Idx) : val_main_v26 (F := Ideal) x t i = BitVec.ofNat 32 (gIdx (x i) (t i)).val := by
  have := (gIdx (x i) (t i)).isLt
  rw [val_main_v26_apply, val_main_v23_apply, bin_eq h]
  exact wrap (by omega) _

/-- The gradient table's entry of an element. -/
theorem gtab (h : val_main_v0 (F := Ideal) t = t) (i : S16384x1000.Idx) : val_main_v28 (F := Ideal) x t g i = g (ix1 (gIdx (x i) (t i))) := by
  unfold val_main_v28
  refine lookup g (val_main_v27 (F := Ideal) x t) i _ (by decide) ?_
  rw [val_main_v27_apply, bin_wrapped h, show idx_main_v27 (ValueIdx.takeIdx i) = i from (eq_ix2 _).trans (ix2_eta i)]

/-- The number of the label entry of class `c` and bin `b`. -/
abbrev entry (b : Fin 3) (c : Fin 1000) : Fin 3000 := ⟨3 * c.val + b.val, by omega⟩

/-- The label entry's number of an element. -/
theorem label_eq (h : val_main_v0 (F := Ideal) t = t) (r : Fin 16384) (c : Fin 1000) :
    val_main_v43 (F := Ideal) t (ix2 r c) = BitVec.ofNat 32 (entry (lIdx (t (ix2 r c))) c).val := by
  have e : val_main_v37 (F := Ideal) t (ix2 r c) = BitVec.ofNat 32 (lIdx (t (ix2 r c))).val := by
    rw [← lWord_eq]
    show clampWord 2#32 (val_main_v0 (F := Ideal) t (ix2 r c) * Ideal.ofBits .f32 0x40400000#32) = _
    rw [h]
    rfl
  rw [val_main_v43_apply, e]
  exact label_word c.isLt (lIdx _).isLt

/-- The same at any index. -/
theorem label_at (h : val_main_v0 (F := Ideal) t = t) (i : S16384x1000.Idx) :
    val_main_v43 (F := Ideal) t i = BitVec.ofNat 32 (entry (lIdx (t i)) (i 1)).val := by
  obtain ⟨r, c, rfl⟩ : ∃ r c, i = ix2 r c := ⟨_, _, eq_ix2 i⟩
  exact label_eq h r c

/-- The label entry's number after the wrap of negative indices. -/
theorem label_wrapped (h : val_main_v0 (F := Ideal) t = t) (r : Fin 16384) (c : Fin 1000) :
    val_main_v48 (F := Ideal) t (ix2 r c) = BitVec.ofNat 32 (entry (lIdx (t (ix2 r c))) c).val := by
  have := (entry (lIdx (t (ix2 r c))) c).isLt
  rw [val_main_v48_apply, val_main_v45_apply, label_eq h]
  exact wrap (by omega) _

/-- The label table's entry of an element. -/
theorem ltab (h : val_main_v0 (F := Ideal) t = t) (r : Fin 16384) (c : Fin 1000) :
    val_main_v50 (F := Ideal) t l (ix2 r c) = l (ix1 (entry (lIdx (t (ix2 r c))) c)) := by
  unfold val_main_v50
  refine lookup l (val_main_v49 (F := Ideal) t) (ix2 r c) _ (by decide) ?_
  rw [val_main_v49_apply, show idx_main_v49 (ValueIdx.takeIdx (ix2 r c)) = ix2 r c from (eq_ix2 _).trans (ix2_eta (ix2 r c)), label_wrapped h]

/-! ## The loss -/

/-- The weighted loss of an element. -/
theorem loss_eq (h : val_main_v0 (F := Ideal) t = t) (hk : ∀ i, k i = 1) (r : Fin 16384) (c : Fin 1000) :
    val_main_v58 (F := Ideal) x t k g l (ix2 r c)
      = elemLoss (x (ix2 r c)) (t (ix2 r c)) (fun b => g (ix1 b)) fun b => l (ix1 (entry b c)) := by
  show val_main_v8 (F := Ideal) x t (ix2 r c) * Ideal.sqrt
      ((Ideal.div (Ideal.ofBits .f32 0x3F800000#32) (val_main_v28 (F := Ideal) x t g (ix2 r c)) + Ideal.ofBits .f32 0x3A83126F#32)
        * (Ideal.div (Ideal.ofBits .f32 0x3F800000#32) (val_main_v50 (F := Ideal) t l (ix2 r c)) + Ideal.ofBits .f32 0x3A83126F#32)) * k (ix2 r c) = _
  rw [raw_eq h, gtab h, ltab h, hk, mul_one, Ideal.ofBits_one_f32]
  rfl

/-- The number of elements. -/
theorem total : Ideal.ofBits .f32 0x4B7A0000#32 = ((16384000 : ℝ) : EReal) := by
  simp [Ideal.ofBits, Ideal.ieee, -EReal.coe_mul]

/-- Adding up ones counts the elements. -/
theorem sum_ones (n m : ℕ) : ∑ _ : Fin n, ∑ _ : Fin m, (1 : EReal) = (((n : ℝ) * m : ℝ) : EReal) := by
  simp only [Finset.sum_const, Finset.card_univ, Fintype.card_fin, EReal.nsmul_eq_mul, mul_one, EReal.coe_mul, EReal.coe_natCast]

/-- The mask of ones sums to the number of elements. -/
theorem mask_sum (hk : ∀ i, k i = 1) : ∑ i, k i = Ideal.ofBits .f32 0x4B7A0000#32 := by
  rw [total, Finset.sum_congr rfl fun i _ => hk i, sum_idx2, sum_ones]
  norm_num

/-- The zero word is zero. -/
theorem zero_bits : Ideal.ofBits .f32 0x00000000#32 = 0 := Ideal.ofBits_zero .f32

/-- The first result. -/
theorem loss (h : val_main_v0 (F := Ideal) t = t) (hk : ∀ i, k i = 1) :
    val_main_v61 (F := Ideal) x t k g l = fun _ => Ideal.div (lossSum (rows x) (rows t) (fun b => g (ix1 b)) fun b c => l (ix1 (entry b c)))
      (Ideal.ofBits .f32 0x4B7A0000#32) := by
  funext i
  rw [val_main_v61_apply, val_main_v59_apply, val_main_v60_apply, val_main_cst_18_apply, val_main_cst_19_apply]
  rw [Ideal.ofBits_def, zero_bits, zero_add, zero_add, mask_sum hk, sum_idx2,
    Finset.sum_congr rfl fun r _ => Finset.sum_congr rfl fun c _ => loss_eq h hk r c, Ideal.hostDivf_def]
  unfold lossSum rows
  rfl

/-! ## The counts -/

/-- Element `r * 1000 + c` of the flat list is the one in row `r` and column `c`. -/
theorem flat_idx (r : Fin 16384) (c : Fin 1000) (h) : idx_main_v63 (ix1 ⟨r.val * 1000 + c.val, h⟩) = ix2 r c := by
  refine (eq_ix2 _).trans ?_
  congr 1
  · exact Fin.ext (show (r.val * 1000 + c.val) / 1000 = r.val by omega)
  · exact Fin.ext (show (r.val * 1000 + c.val) % 1000 = c.val by omega)

/-- How many elements fall in gradient bin `b`. -/
theorem gcounts (h : val_main_v0 (F := Ideal) t = t) (hk : ∀ i, k i = 1) (b : Fin 10) :
    val_main_v72 (F := Ideal) x t k (ix1 b) = gcount (rows x) (rows t) b := by
  unfold val_main_v72
  refine (count (val_main_v64 (F := Ideal)) (val_main_v71 (F := Ideal) x t) (val_main_v62 (F := Ideal) k) (fun _ => zero_bits) (fun j => hk _)
    (fun j => gIdx (x (idx_main_v63 (ix1 j))) (t (idx_main_v63 (ix1 j)))) (by decide) (fun j => ?_) b).trans ?_
  · have := (gIdx (x (idx_main_v63 (ix1 j))) (t (idx_main_v63 (ix1 j)))).isLt
    have e : val_main_v65 (F := Ideal) x t (ix1 j) = BitVec.ofNat 32 (gIdx (x (idx_main_v63 (ix1 j))) (t (idx_main_v63 (ix1 j)))).val := by
      rw [val_main_v65_apply, val_main_v63_apply, bin_eq h]
      exact max_zero (by omega)
    rw [val_main_v71_apply, show idx_main_v71 (ix2 j 0) = ix1 j from eq_ix1 _, val_main_v70_apply, val_main_v67_apply, e]
    exact wrap (by omega) _
  · refine sum_flat (R := 16384) (C := 1000) _ _ fun r c => ?_
    rw [flat_idx]

/-- Two label entries are the same when both their bins and their classes are. -/
theorem entry_hit (b b' : Fin 3) (c c' : Fin 1000) : hit (entry b' c') (entry b c) = if c' = c then hit b' b else 0 := by
  unfold hit
  split_ifs <;> simp_all [Fin.ext_iff] <;> omega

/-- How many rows have class `c`'s target in bin `b`. -/
theorem lcounts (h : val_main_v0 (F := Ideal) t = t) (hk : ∀ i, k i = 1) (b : Fin 3) (c : Fin 1000) :
    val_main_v99 (F := Ideal) t k (ix1 (entry b c)) = lcount (rows t) b c := by
  unfold val_main_v99
  refine (count (val_main_v91 (F := Ideal)) (val_main_v98 (F := Ideal) t) (val_main_v62 (F := Ideal) k) (fun _ => zero_bits) (fun j => hk _)
    (fun j => entry (lIdx (t (idx_main_v63 (ix1 j)))) (idx_main_v63 (ix1 j) 1)) (by decide) (fun j => ?_) (entry b c)).trans ?_
  · have := (entry (lIdx (t (idx_main_v63 (ix1 j)))) (idx_main_v63 (ix1 j) 1)).isLt
    have e : val_main_v92 (F := Ideal) t (ix1 j) = BitVec.ofNat 32 (entry (lIdx (t (idx_main_v63 (ix1 j)))) (idx_main_v63 (ix1 j) 1)).val := by
      rw [val_main_v92_apply, val_main_v90_apply, label_at h]
      exact max_zero (by omega)
    rw [val_main_v98_apply, show idx_main_v98 (ix2 j 0) = ix1 j from eq_ix1 _, val_main_v97_apply, val_main_v94_apply, e]
    exact wrap (by omega) _
  · refine (sum_flat (R := 16384) (C := 1000) _ (fun r c' => if c' = c then hit (lIdx (rows t r c')) b else 0) fun r c' => ?_).trans ?_
    · rw [flat_idx]
      exact entry_hit _ _ _ _
    · unfold lcount
      exact Finset.sum_congr rfl fun r _ => by rw [Finset.sum_ite_eq' Finset.univ c, if_pos (Finset.mem_univ c)]

/-! ## The tables -/

/-- The second result. -/
theorem grads (h : val_main_v0 (F := Ideal) t = t) (hk : ∀ i, k i = 1) :
    val_main_v89 (F := Ideal) x t k g = fun i : S10.Idx => ema (Ideal.ofBits .f32 0x41200000#32) (fun b => g (ix1 b)) (gcount (rows x) (rows t)) (i 0) := by
  have e : ∀ b : Fin 10, val_main_v83 (F := Ideal) x t k g (ix1 b) = blend (Ideal.ofBits .f32 0x41200000#32) (fun b => g (ix1 b)) (gcount (rows x) (rows t)) b := fun b => by
    rw [val_main_v83_apply, val_main_v80_apply, val_main_v82_apply, val_main_v78_apply, val_main_v76_apply, val_main_v75_apply, val_main_v74_apply,
      val_main_v73_apply, val_main_cst_24_apply, Ideal.ofBits_def, zero_bits, zero_add, sum_idx1, gcounts h hk, Finset.sum_congr rfl fun b _ => gcounts h hk b]
    rfl
  funext i
  obtain ⟨b, rfl⟩ : ∃ b, i = ix1 b := ⟨_, eq_ix1 i⟩
  rw [val_main_v89_apply, val_main_v87_apply, val_main_v86_apply, val_main_v85_apply, val_main_v84_apply, val_main_cst_29_apply, Ideal.ofBits_def, zero_bits,
    zero_add, sum_idx1, e, Finset.sum_congr rfl fun b _ => e b]
  rfl

/-- The label entries, by bin and class. -/
def entries : Fin 3 × Fin 1000 ≃ Fin 3000 where
  toFun p := entry p.1 p.2
  invFun i := (⟨i.val % 3, Nat.mod_lt _ (by decide)⟩, ⟨i.val / 3, by omega⟩)
  left_inv p := Prod.ext (Fin.ext (show (3 * p.2.val + p.1.val) % 3 = p.1.val by omega)) (Fin.ext (show (3 * p.2.val + p.1.val) / 3 = p.2.val by omega))
  right_inv i := Fin.ext (show 3 * (i.val / 3) + i.val % 3 = i.val by omega)

/-- The third result. -/
theorem labels (h : val_main_v0 (F := Ideal) t = t) (hk : ∀ i, k i = 1) :
    val_main_v116 (F := Ideal) t k l = fun i : S3000.Idx => ema (Ideal.ofBits .f32 0x453B8000#32) (fun p : Fin 3 × Fin 1000 => l (ix1 (entry p.1 p.2)))
      (fun p => lcount (rows t) p.1 p.2) (entries.symm (i 0)) := by
  have e : ∀ b : Fin 3000, val_main_v110 (F := Ideal) t k l (ix1 b)
      = blend (Ideal.ofBits .f32 0x453B8000#32) (fun b => l (ix1 b)) (fun b => val_main_v99 (F := Ideal) t k (ix1 b)) b := fun b => by
    rw [val_main_v110_apply, val_main_v107_apply, val_main_v109_apply, val_main_v105_apply, val_main_v103_apply, val_main_v102_apply, val_main_v101_apply,
      val_main_v100_apply, val_main_cst_36_apply, Ideal.ofBits_def, zero_bits, zero_add, sum_idx1]
    rfl
  funext i
  obtain ⟨b, rfl⟩ : ∃ b, i = ix1 b := ⟨_, eq_ix1 i⟩
  have ec : (fun p : Fin 3 × Fin 1000 => lcount (rows t) p.1 p.2) = fun p => val_main_v99 (F := Ideal) t k (ix1 (entries p)) :=
    funext fun p => (lcounts h hk p.1 p.2).symm
  rw [ec]
  refine Eq.trans ?_ (ema_reindex entries _ (fun b => l (ix1 b)) (fun b => val_main_v99 (F := Ideal) t k (ix1 b)) _).symm
  rw [show entries (entries.symm (ix1 b 0)) = b from entries.apply_symm_apply b]
  rw [val_main_v116_apply, val_main_v114_apply, val_main_v113_apply, val_main_v112_apply, val_main_v111_apply, val_main_cst_41_apply, Ideal.ofBits_def, zero_bits,
    zero_add, sum_idx1, e, Finset.sum_congr rfl fun b _ => e b]
  rfl

/-! ## The run -/

/-- What argument `b` of the reference holds on device `c`. -/
abbrev arg (m : (ℓ : Loc nD τ sig) → Buf (Elt Ideal) ℓ) (c : Dev nD) (b : Ref sig .tc) := m ((c : Thread nD τ).loc b)

/-- The reference's run leaves its three results in their buffers. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61)
          = val_main_v61 (F := Ideal) (arg m c main_arg0) (arg m c main_arg1) (arg m c main_arg2) (arg m c main_arg3) (arg m c main_arg4)
        ∧ r.2.mem ((c.tc : Thread nD τ).loc main_v89)
          = val_main_v89 (F := Ideal) (arg m c main_arg0) (arg m c main_arg1) (arg m c main_arg2) (arg m c main_arg3)
        ∧ r.2.mem ((c.tc : Thread nD τ).loc main_v116) = val_main_v116 (F := Ideal) (arg m c main_arg1) (arg m c main_arg2) (arg m c main_arg4) :=
  (θ_run defs _ _).mono (fun _ h c => ⟨(h c).1.trans (val_main_v61_eq _), (h c).2.1.trans (val_main_v89_eq _), (h c).2.2.1.trans (val_main_v116_eq _)⟩)
    (Cert.ReferenceIdeal.Value.run (F := Ideal) m ρ)

end Cert.Ref
-- ==== Proof.Pre.lean ====
/- What the precondition says of each element. -/
module

public import proofs.«01_k».proof.Defs
public import proofs.«01_k».proof.Proof.Gen.Pre_unmasked
public import Idealize.ShloMosaic.Lib.ReduceAll
public import Idealize.ShloMosaic.Lib.IdealHost
public import Idealize.ShloMosaic.Lib.Pipeline.ValueKit

@[expose] public section

noncomputable section

namespace Cert.PreFacts

open Cert.Pre_unmasked Idealize.ShloMosaic

/-- A scalar has one index. -/
instance : Subsingleton S_.Idx := ⟨fun _ _ => funext fun a => a.elim0⟩

/-- The mask is all ones, and every target lies between zero and one. -/
theorem unmasked {x t k : FVec Ideal S16384x1000 .f32} {g : FVec Ideal S10 .f32} {l : FVec Ideal S3000 .f32}
    (h : fn (F := Ideal) x t k g l = fun _ => 1#1) : (∀ i, k i = 1) ∧ (∀ i, 0 ≤ t i) ∧ ∀ i, t i ≤ 1 := by
  have h0 := congrFun h (fun a => a.elim0)
  obtain ⟨h12, h3⟩ := IntOp.andi_eq_one.1 h0
  obtain ⟨h1, h2⟩ := IntOp.andi_eq_one.1 h12
  refine ⟨fun i => ?_, fun i => ?_, fun i => ?_⟩
  · exact ((Ideal.cmp_oeq_eq_one _ _).1 (Host.reduce_andi_all _ _ _ _ _ h1 i)).trans Ideal.ofBits_one_f32
  · exact (Ideal.ofBits_zero .f32).symm.le.trans ((Ideal.cmp_oge_eq_one _ _).1 (Host.reduce_andi_all _ _ _ _ _ h2 i))
  · exact ((Ideal.cmp_ole_eq_one _ _).1 (Host.reduce_andi_all _ _ _ _ _ h3 i)).trans Ideal.ofBits_one_f32.le

end Cert.PreFacts
-- ==== Proof.lean ====
/- Every claim about the kernel and its reference, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_unmasked
public import proofs.«01_k».proof.Proof.Tail
public import proofs.«01_k».proof.Proof.Ref
public import proofs.«01_k».proof.Proof.Pre

@[expose] public section

set_option maxRecDepth 16384

noncomputable section

namespace Cert.Proof

open Idealize.ShloMosaic Idealize.SL.Sem

/-- The reference leaves its arguments as they were; it declares no semaphore. -/
theorem frame_r : Cert.quiescent_ReferenceIdeal := fun m g _ =>
  (θ_run Cert.ReferenceIdeal.defs _ _).mono (fun r h => And.intro (fun c => (h c).2.2.2) (sem_eq_zero_of_no_sems (by decide) r.2))
    (Cert.ReferenceIdeal.Value.run (F := Ideal) m g)

/-- Over a mask of ones and targets between zero and one, the kernel and the reference return the same three results. -/
theorem algebraic : Cert.algebraic_KernelIdeal_ReferenceIdeal_pre_unmasked := by
  intro m g m' g' hpre hin
  refine ⟨fun c => Cert.Tail.W m c Cert.KernelIdeal.main_v4, fun c => Cert.Tail.W m c Cert.KernelIdeal.main_v5, fun c => Cert.Tail.W m c Cert.KernelIdeal.main_v7, ?_, ?_⟩
  · exact (θ_run Cert.KernelIdeal.defs _ _).mono (fun _ h c => ⟨(h.1 c).1, (h.1 c).2.1, (h.1 c).2.2, h.2 c⟩)
      (θ_run_and (Cert.Tail.run m g) (Cert.KernelIdeal.Gen.unchanged m g))
  · refine (θ_run Cert.ReferenceIdeal.defs _ _).mono (fun _ h c => ?_) (θ_run_and (Cert.Ref.run m' g') (frame_r m' g' trivial))
    obtain ⟨e0, e1, e2, e3, e4⟩ := hin c
    obtain ⟨hk, hlo, hhi⟩ := Cert.PreFacts.unmasked (hpre c)
    have hc := Cert.Ref.clip_eq hlo hhi
    obtain ⟨⟨h1, h2, h3⟩, ha⟩ := And.intro (h.1 c) (h.2.1 c)
    unfold Cert.Ref.arg at h1 h2 h3
    refine ⟨h1.trans ?_, h2.trans ?_, h3.trans ?_, ha⟩
    · rw [e0, e1, e2, e3, e4]
      exact (Cert.Ref.loss hc hk).trans (Cert.Tail.W_loss m c).symm
    · rw [e0, e1, e2, e3]
      exact (Cert.Ref.grads hc hk).trans (Cert.Tail.W_g m c).symm
    · rw [e1, e2, e4]
      exact (Cert.Ref.labels hc hk).trans (Cert.Tail.W_l m c).symm

/-- Every claim. -/
theorem claim : Cert.Claim :=
  ⟨Cert.Kernel.Gen.facts, Cert.KernelIdeal.Gen.facts, Cert.ReferenceIdeal.Gen.facts, Cert.Pre_unmasked.Gen.facts,
    fun m g _ => Cert.Kernel.Gen.frame m g,
    fun m g _ => Cert.KernelIdeal.Gen.frame m g,
    fun m g _ => Cert.KernelIdeal.Gen.frame m g,
    frame_r,
    fun m g _ => frame_r m g trivial,
    trivial,
    algebraic⟩

end Cert.Proof

end
